-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v352) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
-- ==== Pre_scores_finite.lean ====
abbrev S4x2048x64 : Shape := ⟨3, ![4, 2048, 64]⟩
abbrev S2x64 : Shape := ⟨2, ![2, 64]⟩
abbrev S2x192x64 : Shape := ⟨3, ![2, 192, 64]⟩
abbrev S2x192 : Shape := ⟨2, ![2, 192]⟩
abbrev S2x64x64 : Shape := ⟨3, ![2, 64, 64]⟩
abbrev S2x4x64 : Shape := ⟨3, ![2, 4, 64]⟩
abbrev S2x4x256x64 : Shape := ⟨4, ![2, 4, 256, 64]⟩
abbrev S2x4x64x128 : Shape := ⟨4, ![2, 4, 64, 128]⟩
abbrev S100x64 : Shape := ⟨2, ![100, 64]⟩
abbrev S100 : Shape := ⟨1, ![100]⟩
abbrev S_ : Shape := ⟨0, ![]⟩
abbrev S2x128x64 : Shape := ⟨3, ![2, 128, 64]⟩
abbrev S2x128 : Shape := ⟨2, ![2, 128]⟩

class Facts : Prop where
  bcast_S_S2x64 : S_.BroadcastsInDim S2x64 (![] : Fin 0 → Fin S2x64.rank)
  slices_S2x192x64_S2x128x64_0_0_0 : S2x192x64.Slices ![0, 0, 0] S2x128x64
  bcast_S_S2x128x64 : S_.BroadcastsInDim S2x128x64 (![] : Fin 0 → Fin S2x128x64.rank)
  slices_S2x192_S2x128_0_0 : S2x192.Slices ![0, 0] S2x128
  bcast_S_S2x128 : S_.BroadcastsInDim S2x128 (![] : Fin 0 → Fin S2x128.rank)

variable [Facts]

def fn {F : FTy → Type} [FloatOps F] (main_arg0 : FVec F S4x2048x64 .f32) (main_arg1 : FVec F S2x64 .f32) (main_arg2 : FVec F S2x64 .f32) (main_arg3 : FVec F S2x192x64 .f32) (main_arg4 : FVec F S2x192 .f32) (main_arg5 : FVec F S2x64x64 .f32) (main_arg6 : FVec F S2x64 .f32) (main_arg7 : FVec F S2x64 .f32) (main_arg8 : FVec F S2x64 .f32) (main_arg9 : FVec F S2x4x64 .f32) (main_arg10 : FVec F S2x4x256x64 .f32) (main_arg11 : FVec F S2x4x64x128 .f32) (main_arg12 : FVec F S100x64 .f32) (main_arg13 : FVec F S100 .f32) : IVec S2x64 1 × IVec S2x64 1 × IVec S2x128x64 1 × IVec S2x128 1 :=
  let main_v0 : FVec F S2x64 .f32 := Host.absf main_arg1
  let main_cst : FVec F S_ .f32 := constant S_ .f32 0x7F800000#32
  let main_v1 : FVec F S2x64 .f32 := broadcastInDim S2x64 ![] bcast_S_S2x64 main_cst
  let main_v2 : IVec S2x64 1 := cmpf .olt main_v0 main_v1
  let main_v3 : FVec F S2x64 .f32 := Host.absf main_arg2
  let main_cst_0 : FVec F S_ .f32 := constant S_ .f32 0x7F800000#32
  let main_v4 : FVec F S2x64 .f32 := broadcastInDim S2x64 ![] bcast_S_S2x64 main_cst_0
  let main_v5 : IVec S2x64 1 := cmpf .olt main_v3 main_v4
  let main_v6 : FVec F S2x128x64 .f32 := (extractStridedSlice S2x128x64 ![0, 0, 0] · slices_S2x192x64_S2x128x64_0_0_0) main_arg3
  let main_v7 : FVec F S2x128x64 .f32 := Host.absf main_v6
  let main_cst_1 : FVec F S_ .f32 := constant S_ .f32 0x7F800000#32
  let main_v8 : FVec F S2x128x64 .f32 := broadcastInDim S2x128x64 ![] bcast_S_S2x128x64 main_cst_1
  let main_v9 : IVec S2x128x64 1 := cmpf .olt main_v7 main_v8
  let main_v10 : FVec F S2x128 .f32 := (extractStridedSlice S2x128 ![0, 0] · slices_S2x192_S2x128_0_0) main_arg4
  let main_v11 : FVec F S2x128 .f32 := Host.absf main_v10
  let main_cst_2 : FVec F S_ .f32 := constant S_ .f32 0x7F800000#32
  let main_v12 : FVec F S2x128 .f32 := broadcastInDim S2x128 ![] bcast_S_S2x128 main_cst_2
  let main_v13 : IVec S2x128 1 := cmpf .olt main_v11 main_v12
  (main_v2, main_v5, main_v9, main_v13)
-- ==== Kernel.lean ====
abbrev S4x2048x64 : Shape := ⟨3, ![4, 2048, 64]⟩
abbrev S2x64 : Shape := ⟨2, ![2, 64]⟩
abbrev S2x192x64 : Shape := ⟨3, ![2, 192, 64]⟩
abbrev S2x192 : Shape := ⟨2, ![2, 192]⟩
abbrev S2x64x64 : Shape := ⟨3, ![2, 64, 64]⟩
abbrev S2x4x64 : Shape := ⟨3, ![2, 4, 64]⟩
abbrev S2x4x256x64 : Shape := ⟨4, ![2, 4, 256, 64]⟩
abbrev S2x4x64x128 : Shape := ⟨4, ![2, 4, 64, 128]⟩
abbrev S100x64 : Shape := ⟨2, ![100, 64]⟩
abbrev S100 : Shape := ⟨1, ![100]⟩
abbrev S1x100 : Shape := ⟨2, ![1, 100]⟩
abbrev S4x2048x100 : Shape := ⟨3, ![4, 2048, 100]⟩
abbrev S1x2048x64 : Shape := ⟨3, ![1, 2048, 64]⟩
abbrev S1x2048x100 : Shape := ⟨3, ![1, 2048, 100]⟩
abbrev S512x64 : Shape := ⟨2, ![512, 64]⟩
abbrev S2048x64 : Shape := ⟨2, ![2048, 64]⟩
abbrev S1x64 : Shape := ⟨2, ![1, 64]⟩
abbrev S64 : Shape := ⟨1, ![64]⟩
abbrev S2048x8 : Shape := ⟨2, ![2048, 8]⟩
abbrev S2048x4 : Shape := ⟨2, ![2048, 4]⟩
abbrev S2048x2 : Shape := ⟨2, ![2048, 2]⟩
abbrev S2048x1 : Shape := ⟨2, ![2048, 1]⟩
abbrev S1x64x64 : Shape := ⟨3, ![1, 64, 64]⟩
abbrev S64x64 : Shape := ⟨2, ![64, 64]⟩
abbrev S512x2048 : Shape := ⟨2, ![512, 2048]⟩
abbrev S512 : Shape := ⟨1, ![512]⟩
abbrev S512x1 : Shape := ⟨2, ![512, 1]⟩
abbrev S512x256 : Shape := ⟨2, ![512, 256]⟩
abbrev S256x64 : Shape := ⟨2, ![256, 64]⟩
abbrev S1x4x64 : Shape := ⟨3, ![1, 4, 64]⟩
abbrev S4x64 : Shape := ⟨2, ![4, 64]⟩
abbrev S2048 : Shape := ⟨1, ![2048]⟩
abbrev S1x1x256x64 : Shape := ⟨4, ![1, 1, 256, 64]⟩
abbrev S2048x256 : Shape := ⟨2, ![2048, 256]⟩
abbrev S2048x128 : Shape := ⟨2, ![2048, 128]⟩
abbrev S1x1x64x128 : Shape := ⟨4, ![1, 1, 64, 128]⟩
abbrev S64x128 : Shape := ⟨2, ![64, 128]⟩
abbrev S2048x100 : Shape := ⟨2, ![2048, 100]⟩

abbrev nBuf : Space → Nat
  | .hbm => 16
  | .vmem => 18
  | .smem => 0
  | _ => 0

abbrev bufTy : (tb : Table) → Fin (tcTables nBuf tb) → BufTy
  | .hbm, ⟨0, _⟩ => ⟨S4x2048x64, .f32⟩
  | .hbm, ⟨1, _⟩ => ⟨S2x64, .f32⟩
  | .hbm, ⟨2, _⟩ => ⟨S2x64, .f32⟩
  | .hbm, ⟨3, _⟩ => ⟨S2x192x64, .f32⟩
  | .hbm, ⟨4, _⟩ => ⟨S2x192, .f32⟩
  | .hbm, ⟨5, _⟩ => ⟨S2x64x64, .f32⟩
  | .hbm, ⟨6, _⟩ => ⟨S2x64, .f32⟩
  | .hbm, ⟨7, _⟩ => ⟨S2x64, .f32⟩
  | .hbm, ⟨8, _⟩ => ⟨S2x64, .f32⟩
  | .hbm, ⟨9, _⟩ => ⟨S2x4x64, .f32⟩
  | .hbm, ⟨10, _⟩ => ⟨S2x4x256x64, .f32⟩
  | .hbm, ⟨11, _⟩ => ⟨S2x4x64x128, .f32⟩
  | .hbm, ⟨12, _⟩ => ⟨S100x64, .f32⟩
  | .hbm, ⟨13, _⟩ => ⟨S100, .f32⟩
  | .hbm, ⟨14, _⟩ => ⟨S1x100, .f32⟩
  | .hbm, ⟨15, _⟩ => ⟨S4x2048x100, .f32⟩
  | .local _ .vmem, ⟨0, _⟩ => ⟨S1x2048x64, .f32⟩
  | .local _ .vmem, ⟨1, _⟩ => ⟨S1x2048x64, .f32⟩
  | .local _ .vmem, ⟨2, _⟩ => ⟨S2x64, .f32⟩
  | .local _ .vmem, ⟨3, _⟩ => ⟨S2x64, .f32⟩
  | .local _ .vmem, ⟨4, _⟩ => ⟨S2x192x64, .f32⟩
  | .local _ .vmem, ⟨5, _⟩ => ⟨S2x192, .f32⟩
  | .local _ .vmem, ⟨6, _⟩ => ⟨S2x64x64, .f32⟩
  | .local _ .vmem, ⟨7, _⟩ => ⟨S2x64, .f32⟩
  | .local _ .vmem, ⟨8, _⟩ => ⟨S2x64, .f32⟩
  | .local _ .vmem, ⟨9, _⟩ => ⟨S2x64, .f32⟩
  | .local _ .vmem, ⟨10, _⟩ => ⟨S2x4x64, .f32⟩
  | .local _ .vmem, ⟨11, _⟩ => ⟨S2x4x256x64, .f32⟩
  | .local _ .vmem, ⟨12, _⟩ => ⟨S2x4x64x128, .f32⟩
  | .local _ .vmem, ⟨13, _⟩ => ⟨S100x64, .f32⟩
  | .local _ .vmem, ⟨14, _⟩ => ⟨S1x100, .f32⟩
  | .local _ .vmem, ⟨15, _⟩ => ⟨S1x2048x100, .f32⟩
  | .local _ .vmem, ⟨16, _⟩ => ⟨S1x2048x100, .f32⟩
  | .local _ .vmem, ⟨17, _⟩ => ⟨S512x64, .f32⟩
  | _, _ => ⟨S4x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x4x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x4x256x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x4x64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S100x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x100 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x2048x100 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S4x2048x64 : Shape := ⟨3, ![4, 2048, 64]⟩
abbrev S2x64 : Shape := ⟨2, ![2, 64]⟩
abbrev S2x192x64 : Shape := ⟨3, ![2, 192, 64]⟩
abbrev S2x192 : Shape := ⟨2, ![2, 192]⟩
abbrev S2x64x64 : Shape := ⟨3, ![2, 64, 64]⟩
abbrev S2x4x64 : Shape := ⟨3, ![2, 4, 64]⟩
abbrev S2x4x256x64 : Shape := ⟨4, ![2, 4, 256, 64]⟩
abbrev S2x4x64x128 : Shape := ⟨4, ![2, 4, 64, 128]⟩
abbrev S100x64 : Shape := ⟨2, ![100, 64]⟩
abbrev S100 : Shape := ⟨1, ![100]⟩
abbrev S1x64 : Shape := ⟨2, ![1, 64]⟩
abbrev S64 : Shape := ⟨1, ![64]⟩
abbrev S_ : Shape := ⟨0, ![]⟩
abbrev S4x2048 : Shape := ⟨2, ![4, 2048]⟩
abbrev S4x2048x1 : Shape := ⟨3, ![4, 2048, 1]⟩
abbrev S1x1x64 : Shape := ⟨3, ![1, 1, 64]⟩
abbrev S1x192x64 : Shape := ⟨3, ![1, 192, 64]⟩
abbrev S192x64 : Shape := ⟨2, ![192, 64]⟩
abbrev S1x192 : Shape := ⟨2, ![1, 192]⟩
abbrev S192 : Shape := ⟨1, ![192]⟩
abbrev S1x64x64 : Shape := ⟨3, ![1, 64, 64]⟩
abbrev S64x64 : Shape := ⟨2, ![64, 64]⟩
abbrev S4x2048x2048 : Shape := ⟨3, ![4, 2048, 2048]⟩
abbrev S1x4x64 : Shape := ⟨3, ![1, 4, 64]⟩
abbrev S4x64 : Shape := ⟨2, ![4, 64]⟩
abbrev S1x4x256x64 : Shape := ⟨4, ![1, 4, 256, 64]⟩
abbrev S4x256x64 : Shape := ⟨3, ![4, 256, 64]⟩
abbrev S1x4x64x128 : Shape := ⟨4, ![1, 4, 64, 128]⟩
abbrev S4x64x128 : Shape := ⟨3, ![4, 64, 128]⟩
abbrev S8192x64 : Shape := ⟨2, ![8192, 64]⟩
abbrev S64x4 : Shape := ⟨2, ![64, 4]⟩
abbrev S8192x4 : Shape := ⟨2, ![8192, 4]⟩
abbrev S8192 : Shape := ⟨1, ![8192]⟩
abbrev S8192x1 : Shape := ⟨2, ![8192, 1]⟩
abbrev S8192x2 : Shape := ⟨2, ![8192, 2]⟩
abbrev S4x256x8192 : Shape := ⟨3, ![4, 256, 8192]⟩
abbrev S4x8192x256 : Shape := ⟨3, ![4, 8192, 256]⟩
abbrev S4x8192x128 : Shape := ⟨3, ![4, 8192, 128]⟩
abbrev S4x8192x64 : Shape := ⟨3, ![4, 8192, 64]⟩
abbrev S64x100 : Shape := ⟨2, ![64, 100]⟩
abbrev S4x2048x100 : Shape := ⟨3, ![4, 2048, 100]⟩
abbrev S1x1x100 : Shape := ⟨3, ![1, 1, 100]⟩

abbrev nBuf : Space → Nat
  | .hbm => 525
  | .vmem => 0
  | .smem => 0
  | _ => 0

abbrev hbmTy0_0 (i : Nat) : BufTy := match i % 128 with
  | 0 => ⟨S4x2048x64, .f32⟩
  | 1 => ⟨S2x64, .f32⟩
  | 2 => ⟨S2x64, .f32⟩
  | 3 => ⟨S2x192x64, .f32⟩
  | 4 => ⟨S2x192, .f32⟩
  | 5 => ⟨S2x64x64, .f32⟩
  | 6 => ⟨S2x64, .f32⟩
  | 7 => ⟨S2x64, .f32⟩
  | 8 => ⟨S2x64, .f32⟩
  | 9 => ⟨S2x4x64, .f32⟩
  | 10 => ⟨S2x4x256x64, .f32⟩
  | 11 => ⟨S2x4x64x128, .f32⟩
  | 12 => ⟨S100x64, .f32⟩
  | 13 => ⟨S100, .f32⟩
  | 14 => ⟨S1x64, .f32⟩
  | 15 => ⟨S64, .f32⟩
  | 16 => ⟨S1x64, .f32⟩
  | 17 => ⟨S64, .f32⟩
  | 18 => ⟨S_, .f32⟩
  | 19 => ⟨S4x2048, .f32⟩
  | 20 => ⟨S4x2048x1, .f32⟩
  | 21 => ⟨S_, .f32⟩
  | 22 => ⟨S4x2048x1, .f32⟩
  | 23 => ⟨S4x2048x1, .f32⟩
  | 24 => ⟨S_, .i32⟩
  | 25 => ⟨S_, .f32⟩
  | 26 => ⟨S4x2048, .f32⟩
  | 27 => ⟨S4x2048x1, .f32⟩
  | 28 => ⟨S_, .f32⟩
  | 29 => ⟨S4x2048x1, .f32⟩
  | 30 => ⟨S4x2048x1, .f32⟩
  | 31 => ⟨S4x2048x64, .f32⟩
  | 32 => ⟨S4x2048x64, .f32⟩
  | 33 => ⟨S4x2048x64, .f32⟩
  | 34 => ⟨S_, .f32⟩
  | 35 => ⟨S_, .f32⟩
  | 36 => ⟨S_, .f32⟩
  | 37 => ⟨S_, .f32⟩
  | 38 => ⟨S4x2048, .f32⟩
  | 39 => ⟨S4x2048x1, .f32⟩
  | 40 => ⟨S4x2048x1, .f32⟩
  | 41 => ⟨S4x2048x1, .f32⟩
  | 42 => ⟨S_, .f32⟩
  | 43 => ⟨S_, .i1⟩
  | 44 => ⟨S_, .f32⟩
  | 45 => ⟨S_, .f32⟩
  | 46 => ⟨S4x2048x1, .f32⟩
  | 47 => ⟨S4x2048x1, .f32⟩
  | 48 => ⟨S4x2048x64, .f32⟩
  | 49 => ⟨S4x2048x64, .f32⟩
  | 50 => ⟨S_, .f32⟩
  | 51 => ⟨S4x2048x1, .f32⟩
  | 52 => ⟨S4x2048x1, .f32⟩
  | 53 => ⟨S4x2048x1, .f32⟩
  | 54 => ⟨S4x2048x64, .f32⟩
  | 55 => ⟨S4x2048x64, .f32⟩
  | 56 => ⟨S1x1x64, .f32⟩
  | 57 => ⟨S4x2048x64, .f32⟩
  | 58 => ⟨S4x2048x64, .f32⟩
  | 59 => ⟨S1x1x64, .f32⟩
  | 60 => ⟨S4x2048x64, .f32⟩
  | 61 => ⟨S4x2048x64, .f32⟩
  | 62 => ⟨S1x192x64, .f32⟩
  | 63 => ⟨S192x64, .f32⟩
  | 64 => ⟨S1x192, .f32⟩
  | 65 => ⟨S192, .f32⟩
  | 66 => ⟨S1x64x64, .f32⟩
  | 67 => ⟨S64x64, .f32⟩
  | 68 => ⟨S1x64, .f32⟩
  | 69 => ⟨S64, .f32⟩
  | 70 => ⟨S64x64, .f32⟩
  | 71 => ⟨S64x64, .f32⟩
  | 72 => ⟨S64x64, .f32⟩
  | 73 => ⟨S64, .f32⟩
  | 74 => ⟨S64, .f32⟩
  | 75 => ⟨S64, .f32⟩
  | 76 => ⟨S64x64, .f32⟩
  | 77 => ⟨S4x2048x64, .f32⟩
  | 78 => ⟨S1x1x64, .f32⟩
  | 79 => ⟨S4x2048x64, .f32⟩
  | 80 => ⟨S4x2048x64, .f32⟩
  | 81 => ⟨S64x64, .f32⟩
  | 82 => ⟨S4x2048x64, .f32⟩
  | 83 => ⟨S1x1x64, .f32⟩
  | 84 => ⟨S4x2048x64, .f32⟩
  | 85 => ⟨S4x2048x64, .f32⟩
  | 86 => ⟨S64x64, .f32⟩
  | 87 => ⟨S4x2048x64, .f32⟩
  | 88 => ⟨S1x1x64, .f32⟩
  | 89 => ⟨S4x2048x64, .f32⟩
  | 90 => ⟨S4x2048x64, .f32⟩
  | 91 => ⟨S4x2048x2048, .f32⟩
  | 92 => ⟨S_, .f32⟩
  | 93 => ⟨S_, .f32⟩
  | 94 => ⟨S4x2048x2048, .f32⟩
  | 95 => ⟨S4x2048x2048, .f32⟩
  | 96 => ⟨S_, .f32⟩
  | 97 => ⟨S4x2048, .f32⟩
  | 98 => ⟨S_, .f32⟩
  | 99 => ⟨S4x2048, .f32⟩
  | 100 => ⟨S4x2048, .f32⟩
  | 101 => ⟨S4x2048x1, .f32⟩
  | 102 => ⟨S4x2048x2048, .f32⟩
  | 103 => ⟨S4x2048x2048, .f32⟩
  | 104 => ⟨S4x2048x2048, .f32⟩
  | 105 => ⟨S_, .f32⟩
  | 106 => ⟨S4x2048, .f32⟩
  | 107 => ⟨S4x2048x1, .f32⟩
  | 108 => ⟨S4x2048x2048, .f32⟩
  | 109 => ⟨S4x2048x2048, .f32⟩
  | 110 => ⟨S4x2048x64, .f32⟩
  | 111 => ⟨S64x64, .f32⟩
  | 112 => ⟨S4x2048x64, .f32⟩
  | 113 => ⟨S1x1x64, .f32⟩
  | 114 => ⟨S4x2048x64, .f32⟩
  | 115 => ⟨S4x2048x64, .f32⟩
  | 116 => ⟨S4x2048x64, .f32⟩
  | 117 => ⟨S1x64, .f32⟩
  | 118 => ⟨S64, .f32⟩
  | 119 => ⟨S1x64, .f32⟩
  | 120 => ⟨S64, .f32⟩
  | 121 => ⟨S_, .f32⟩
  | 122 => ⟨S4x2048, .f32⟩
  | 123 => ⟨S4x2048x1, .f32⟩
  | 124 => ⟨S_, .f32⟩
  | 125 => ⟨S4x2048x1, .f32⟩
  | 126 => ⟨S4x2048x1, .f32⟩
  | 127 => ⟨S_, .i32⟩
  | _ => ⟨S4x2048x64, .f32⟩

abbrev hbmTy0_1 (i : Nat) : BufTy := match i % 128 with
  | 0 => ⟨S_, .f32⟩
  | 1 => ⟨S4x2048, .f32⟩
  | 2 => ⟨S4x2048x1, .f32⟩
  | 3 => ⟨S_, .f32⟩
  | 4 => ⟨S4x2048x1, .f32⟩
  | 5 => ⟨S4x2048x1, .f32⟩
  | 6 => ⟨S4x2048x64, .f32⟩
  | 7 => ⟨S4x2048x64, .f32⟩
  | 8 => ⟨S4x2048x64, .f32⟩
  | 9 => ⟨S_, .f32⟩
  | 10 => ⟨S_, .f32⟩
  | 11 => ⟨S_, .f32⟩
  | 12 => ⟨S_, .f32⟩
  | 13 => ⟨S4x2048, .f32⟩
  | 14 => ⟨S4x2048x1, .f32⟩
  | 15 => ⟨S4x2048x1, .f32⟩
  | 16 => ⟨S4x2048x1, .f32⟩
  | 17 => ⟨S_, .f32⟩
  | 18 => ⟨S_, .i1⟩
  | 19 => ⟨S_, .f32⟩
  | 20 => ⟨S_, .f32⟩
  | 21 => ⟨S4x2048x1, .f32⟩
  | 22 => ⟨S4x2048x1, .f32⟩
  | 23 => ⟨S4x2048x64, .f32⟩
  | 24 => ⟨S4x2048x64, .f32⟩
  | 25 => ⟨S_, .f32⟩
  | 26 => ⟨S4x2048x1, .f32⟩
  | 27 => ⟨S4x2048x1, .f32⟩
  | 28 => ⟨S4x2048x1, .f32⟩
  | 29 => ⟨S4x2048x64, .f32⟩
  | 30 => ⟨S4x2048x64, .f32⟩
  | 31 => ⟨S1x1x64, .f32⟩
  | 32 => ⟨S4x2048x64, .f32⟩
  | 33 => ⟨S4x2048x64, .f32⟩
  | 34 => ⟨S1x1x64, .f32⟩
  | 35 => ⟨S4x2048x64, .f32⟩
  | 36 => ⟨S4x2048x64, .f32⟩
  | 37 => ⟨S1x4x64, .f32⟩
  | 38 => ⟨S4x64, .f32⟩
  | 39 => ⟨S1x4x256x64, .f32⟩
  | 40 => ⟨S4x256x64, .f32⟩
  | 41 => ⟨S1x4x64x128, .f32⟩
  | 42 => ⟨S4x64x128, .f32⟩
  | 43 => ⟨S8192x64, .f32⟩
  | 44 => ⟨S64x4, .f32⟩
  | 45 => ⟨S8192x4, .f32⟩
  | 46 => ⟨S_, .f32⟩
  | 47 => ⟨S8192, .f32⟩
  | 48 => ⟨S_, .f32⟩
  | 49 => ⟨S8192, .f32⟩
  | 50 => ⟨S8192, .f32⟩
  | 51 => ⟨S8192x1, .f32⟩
  | 52 => ⟨S8192x4, .f32⟩
  | 53 => ⟨S8192x4, .f32⟩
  | 54 => ⟨S8192x4, .f32⟩
  | 55 => ⟨S_, .f32⟩
  | 56 => ⟨S8192, .f32⟩
  | 57 => ⟨S8192x1, .f32⟩
  | 58 => ⟨S8192x4, .f32⟩
  | 59 => ⟨S8192x4, .f32⟩
  | 60 => ⟨S8192x2, .f32⟩
  | 61 => ⟨S8192x2, .i32⟩
  | 62 => ⟨S_, .f32⟩
  | 63 => ⟨S8192, .f32⟩
  | 64 => ⟨S8192x1, .f32⟩
  | 65 => ⟨S8192x2, .f32⟩
  | 66 => ⟨S8192x2, .f32⟩
  | 67 => ⟨S4x256x8192, .f32⟩
  | 68 => ⟨S4x8192x256, .f32⟩
  | 69 => ⟨S4x8192x128, .f32⟩
  | 70 => ⟨S4x8192x128, .f32⟩
  | 71 => ⟨S4x8192x128, .f32⟩
  | 72 => ⟨S4x8192x128, .f32⟩
  | 73 => ⟨S_, .f32⟩
  | 74 => ⟨S4x8192x128, .f32⟩
  | 75 => ⟨S4x8192x128, .f32⟩
  | 76 => ⟨S_, .f32⟩
  | 77 => ⟨S4x8192x128, .f32⟩
  | 78 => ⟨S4x8192x128, .f32⟩
  | 79 => ⟨S4x8192x128, .f32⟩
  | 80 => ⟨S4x8192x128, .f32⟩
  | 81 => ⟨S4x8192x64, .f32⟩
  | 82 => ⟨S_, .f32⟩
  | 83 => ⟨S8192x64, .f32⟩
  | 84 => ⟨S8192, .i32⟩
  | 85 => ⟨S8192x1, .f32⟩
  | 86 => ⟨S8192, .f32⟩
  | 87 => ⟨S8192x1, .f32⟩
  | 88 => ⟨S8192x1, .i32⟩
  | 89 => ⟨S8192, .i32⟩
  | 90 => ⟨S_, .i32⟩
  | 91 => ⟨S8192, .i32⟩
  | 92 => ⟨S8192, .i1⟩
  | 93 => ⟨S_, .i32⟩
  | 94 => ⟨S8192, .i32⟩
  | 95 => ⟨S8192, .i32⟩
  | 96 => ⟨S8192, .i32⟩
  | 97 => ⟨S_, .i32⟩
  | 98 => ⟨S8192, .i32⟩
  | 99 => ⟨S8192, .i1⟩
  | 100 => ⟨S_, .i32⟩
  | 101 => ⟨S8192, .i32⟩
  | 102 => ⟨S8192, .i32⟩
  | 103 => ⟨S8192, .i32⟩
  | 104 => ⟨S8192x1, .i32⟩
  | 105 => ⟨S8192x1, .i32⟩
  | 106 => ⟨S8192x2, .i32⟩
  | 107 => ⟨S8192x64, .f32⟩
  | 108 => ⟨S8192x64, .f32⟩
  | 109 => ⟨S8192x64, .f32⟩
  | 110 => ⟨S8192x64, .f32⟩
  | 111 => ⟨S8192x1, .f32⟩
  | 112 => ⟨S8192, .f32⟩
  | 113 => ⟨S8192x1, .f32⟩
  | 114 => ⟨S8192x1, .i32⟩
  | 115 => ⟨S8192, .i32⟩
  | 116 => ⟨S_, .i32⟩
  | 117 => ⟨S8192, .i32⟩
  | 118 => ⟨S8192, .i1⟩
  | 119 => ⟨S_, .i32⟩
  | 120 => ⟨S8192, .i32⟩
  | 121 => ⟨S8192, .i32⟩
  | 122 => ⟨S8192, .i32⟩
  | 123 => ⟨S_, .i32⟩
  | 124 => ⟨S8192, .i32⟩
  | 125 => ⟨S8192, .i1⟩
  | 126 => ⟨S_, .i32⟩
  | 127 => ⟨S8192, .i32⟩
  | _ => ⟨S4x2048x64, .f32⟩

abbrev hbmTy0_2 (i : Nat) : BufTy := match i % 128 with
  | 0 => ⟨S8192, .i32⟩
  | 1 => ⟨S8192, .i32⟩
  | 2 => ⟨S8192x1, .i32⟩
  | 3 => ⟨S8192x1, .i32⟩
  | 4 => ⟨S8192x2, .i32⟩
  | 5 => ⟨S8192x64, .f32⟩
  | 6 => ⟨S8192x64, .f32⟩
  | 7 => ⟨S8192x64, .f32⟩
  | 8 => ⟨S8192x64, .f32⟩
  | 9 => ⟨S4x2048x64, .f32⟩
  | 10 => ⟨S4x2048x64, .f32⟩
  | 11 => ⟨S1x64, .f32⟩
  | 12 => ⟨S64, .f32⟩
  | 13 => ⟨S1x64, .f32⟩
  | 14 => ⟨S64, .f32⟩
  | 15 => ⟨S_, .f32⟩
  | 16 => ⟨S4x2048, .f32⟩
  | 17 => ⟨S4x2048x1, .f32⟩
  | 18 => ⟨S_, .f32⟩
  | 19 => ⟨S4x2048x1, .f32⟩
  | 20 => ⟨S4x2048x1, .f32⟩
  | 21 => ⟨S_, .i32⟩
  | 22 => ⟨S_, .f32⟩
  | 23 => ⟨S4x2048, .f32⟩
  | 24 => ⟨S4x2048x1, .f32⟩
  | 25 => ⟨S_, .f32⟩
  | 26 => ⟨S4x2048x1, .f32⟩
  | 27 => ⟨S4x2048x1, .f32⟩
  | 28 => ⟨S4x2048x64, .f32⟩
  | 29 => ⟨S4x2048x64, .f32⟩
  | 30 => ⟨S4x2048x64, .f32⟩
  | 31 => ⟨S_, .f32⟩
  | 32 => ⟨S_, .f32⟩
  | 33 => ⟨S_, .f32⟩
  | 34 => ⟨S_, .f32⟩
  | 35 => ⟨S4x2048, .f32⟩
  | 36 => ⟨S4x2048x1, .f32⟩
  | 37 => ⟨S4x2048x1, .f32⟩
  | 38 => ⟨S4x2048x1, .f32⟩
  | 39 => ⟨S_, .f32⟩
  | 40 => ⟨S_, .i1⟩
  | 41 => ⟨S_, .f32⟩
  | 42 => ⟨S_, .f32⟩
  | 43 => ⟨S4x2048x1, .f32⟩
  | 44 => ⟨S4x2048x1, .f32⟩
  | 45 => ⟨S4x2048x64, .f32⟩
  | 46 => ⟨S4x2048x64, .f32⟩
  | 47 => ⟨S_, .f32⟩
  | 48 => ⟨S4x2048x1, .f32⟩
  | 49 => ⟨S4x2048x1, .f32⟩
  | 50 => ⟨S4x2048x1, .f32⟩
  | 51 => ⟨S4x2048x64, .f32⟩
  | 52 => ⟨S4x2048x64, .f32⟩
  | 53 => ⟨S1x1x64, .f32⟩
  | 54 => ⟨S4x2048x64, .f32⟩
  | 55 => ⟨S4x2048x64, .f32⟩
  | 56 => ⟨S1x1x64, .f32⟩
  | 57 => ⟨S4x2048x64, .f32⟩
  | 58 => ⟨S4x2048x64, .f32⟩
  | 59 => ⟨S1x192x64, .f32⟩
  | 60 => ⟨S192x64, .f32⟩
  | 61 => ⟨S1x192, .f32⟩
  | 62 => ⟨S192, .f32⟩
  | 63 => ⟨S1x64x64, .f32⟩
  | 64 => ⟨S64x64, .f32⟩
  | 65 => ⟨S1x64, .f32⟩
  | 66 => ⟨S64, .f32⟩
  | 67 => ⟨S64x64, .f32⟩
  | 68 => ⟨S64x64, .f32⟩
  | 69 => ⟨S64x64, .f32⟩
  | 70 => ⟨S64, .f32⟩
  | 71 => ⟨S64, .f32⟩
  | 72 => ⟨S64, .f32⟩
  | 73 => ⟨S64x64, .f32⟩
  | 74 => ⟨S4x2048x64, .f32⟩
  | 75 => ⟨S1x1x64, .f32⟩
  | 76 => ⟨S4x2048x64, .f32⟩
  | 77 => ⟨S4x2048x64, .f32⟩
  | 78 => ⟨S64x64, .f32⟩
  | 79 => ⟨S4x2048x64, .f32⟩
  | 80 => ⟨S1x1x64, .f32⟩
  | 81 => ⟨S4x2048x64, .f32⟩
  | 82 => ⟨S4x2048x64, .f32⟩
  | 83 => ⟨S64x64, .f32⟩
  | 84 => ⟨S4x2048x64, .f32⟩
  | 85 => ⟨S1x1x64, .f32⟩
  | 86 => ⟨S4x2048x64, .f32⟩
  | 87 => ⟨S4x2048x64, .f32⟩
  | 88 => ⟨S4x2048x2048, .f32⟩
  | 89 => ⟨S_, .f32⟩
  | 90 => ⟨S_, .f32⟩
  | 91 => ⟨S4x2048x2048, .f32⟩
  | 92 => ⟨S4x2048x2048, .f32⟩
  | 93 => ⟨S_, .f32⟩
  | 94 => ⟨S4x2048, .f32⟩
  | 95 => ⟨S_, .f32⟩
  | 96 => ⟨S4x2048, .f32⟩
  | 97 => ⟨S4x2048, .f32⟩
  | 98 => ⟨S4x2048x1, .f32⟩
  | 99 => ⟨S4x2048x2048, .f32⟩
  | 100 => ⟨S4x2048x2048, .f32⟩
  | 101 => ⟨S4x2048x2048, .f32⟩
  | 102 => ⟨S_, .f32⟩
  | 103 => ⟨S4x2048, .f32⟩
  | 104 => ⟨S4x2048x1, .f32⟩
  | 105 => ⟨S4x2048x2048, .f32⟩
  | 106 => ⟨S4x2048x2048, .f32⟩
  | 107 => ⟨S4x2048x64, .f32⟩
  | 108 => ⟨S64x64, .f32⟩
  | 109 => ⟨S4x2048x64, .f32⟩
  | 110 => ⟨S1x1x64, .f32⟩
  | 111 => ⟨S4x2048x64, .f32⟩
  | 112 => ⟨S4x2048x64, .f32⟩
  | 113 => ⟨S4x2048x64, .f32⟩
  | 114 => ⟨S1x64, .f32⟩
  | 115 => ⟨S64, .f32⟩
  | 116 => ⟨S1x64, .f32⟩
  | 117 => ⟨S64, .f32⟩
  | 118 => ⟨S_, .f32⟩
  | 119 => ⟨S4x2048, .f32⟩
  | 120 => ⟨S4x2048x1, .f32⟩
  | 121 => ⟨S_, .f32⟩
  | 122 => ⟨S4x2048x1, .f32⟩
  | 123 => ⟨S4x2048x1, .f32⟩
  | 124 => ⟨S_, .i32⟩
  | 125 => ⟨S_, .f32⟩
  | 126 => ⟨S4x2048, .f32⟩
  | 127 => ⟨S4x2048x1, .f32⟩
  | _ => ⟨S4x2048x64, .f32⟩

abbrev hbmTy0_3 (i : Nat) : BufTy := match i % 128 with
  | 0 => ⟨S_, .f32⟩
  | 1 => ⟨S4x2048x1, .f32⟩
  | 2 => ⟨S4x2048x1, .f32⟩
  | 3 => ⟨S4x2048x64, .f32⟩
  | 4 => ⟨S4x2048x64, .f32⟩
  | 5 => ⟨S4x2048x64, .f32⟩
  | 6 => ⟨S_, .f32⟩
  | 7 => ⟨S_, .f32⟩
  | 8 => ⟨S_, .f32⟩
  | 9 => ⟨S_, .f32⟩
  | 10 => ⟨S4x2048, .f32⟩
  | 11 => ⟨S4x2048x1, .f32⟩
  | 12 => ⟨S4x2048x1, .f32⟩
  | 13 => ⟨S4x2048x1, .f32⟩
  | 14 => ⟨S_, .f32⟩
  | 15 => ⟨S_, .i1⟩
  | 16 => ⟨S_, .f32⟩
  | 17 => ⟨S_, .f32⟩
  | 18 => ⟨S4x2048x1, .f32⟩
  | 19 => ⟨S4x2048x1, .f32⟩
  | 20 => ⟨S4x2048x64, .f32⟩
  | 21 => ⟨S4x2048x64, .f32⟩
  | 22 => ⟨S_, .f32⟩
  | 23 => ⟨S4x2048x1, .f32⟩
  | 24 => ⟨S4x2048x1, .f32⟩
  | 25 => ⟨S4x2048x1, .f32⟩
  | 26 => ⟨S4x2048x64, .f32⟩
  | 27 => ⟨S4x2048x64, .f32⟩
  | 28 => ⟨S1x1x64, .f32⟩
  | 29 => ⟨S4x2048x64, .f32⟩
  | 30 => ⟨S4x2048x64, .f32⟩
  | 31 => ⟨S1x1x64, .f32⟩
  | 32 => ⟨S4x2048x64, .f32⟩
  | 33 => ⟨S4x2048x64, .f32⟩
  | 34 => ⟨S1x4x64, .f32⟩
  | 35 => ⟨S4x64, .f32⟩
  | 36 => ⟨S1x4x256x64, .f32⟩
  | 37 => ⟨S4x256x64, .f32⟩
  | 38 => ⟨S1x4x64x128, .f32⟩
  | 39 => ⟨S4x64x128, .f32⟩
  | 40 => ⟨S8192x64, .f32⟩
  | 41 => ⟨S64x4, .f32⟩
  | 42 => ⟨S8192x4, .f32⟩
  | 43 => ⟨S_, .f32⟩
  | 44 => ⟨S8192, .f32⟩
  | 45 => ⟨S_, .f32⟩
  | 46 => ⟨S8192, .f32⟩
  | 47 => ⟨S8192, .f32⟩
  | 48 => ⟨S8192x1, .f32⟩
  | 49 => ⟨S8192x4, .f32⟩
  | 50 => ⟨S8192x4, .f32⟩
  | 51 => ⟨S8192x4, .f32⟩
  | 52 => ⟨S_, .f32⟩
  | 53 => ⟨S8192, .f32⟩
  | 54 => ⟨S8192x1, .f32⟩
  | 55 => ⟨S8192x4, .f32⟩
  | 56 => ⟨S8192x4, .f32⟩
  | 57 => ⟨S8192x2, .f32⟩
  | 58 => ⟨S8192x2, .i32⟩
  | 59 => ⟨S_, .f32⟩
  | 60 => ⟨S8192, .f32⟩
  | 61 => ⟨S8192x1, .f32⟩
  | 62 => ⟨S8192x2, .f32⟩
  | 63 => ⟨S8192x2, .f32⟩
  | 64 => ⟨S4x256x8192, .f32⟩
  | 65 => ⟨S4x8192x256, .f32⟩
  | 66 => ⟨S4x8192x128, .f32⟩
  | 67 => ⟨S4x8192x128, .f32⟩
  | 68 => ⟨S4x8192x128, .f32⟩
  | 69 => ⟨S4x8192x128, .f32⟩
  | 70 => ⟨S_, .f32⟩
  | 71 => ⟨S4x8192x128, .f32⟩
  | 72 => ⟨S4x8192x128, .f32⟩
  | 73 => ⟨S_, .f32⟩
  | 74 => ⟨S4x8192x128, .f32⟩
  | 75 => ⟨S4x8192x128, .f32⟩
  | 76 => ⟨S4x8192x128, .f32⟩
  | 77 => ⟨S4x8192x128, .f32⟩
  | 78 => ⟨S4x8192x64, .f32⟩
  | 79 => ⟨S_, .f32⟩
  | 80 => ⟨S8192x64, .f32⟩
  | 81 => ⟨S8192, .i32⟩
  | 82 => ⟨S8192x1, .f32⟩
  | 83 => ⟨S8192, .f32⟩
  | 84 => ⟨S8192x1, .f32⟩
  | 85 => ⟨S8192x1, .i32⟩
  | 86 => ⟨S8192, .i32⟩
  | 87 => ⟨S_, .i32⟩
  | 88 => ⟨S8192, .i32⟩
  | 89 => ⟨S8192, .i1⟩
  | 90 => ⟨S_, .i32⟩
  | 91 => ⟨S8192, .i32⟩
  | 92 => ⟨S8192, .i32⟩
  | 93 => ⟨S8192, .i32⟩
  | 94 => ⟨S_, .i32⟩
  | 95 => ⟨S8192, .i32⟩
  | 96 => ⟨S8192, .i1⟩
  | 97 => ⟨S_, .i32⟩
  | 98 => ⟨S8192, .i32⟩
  | 99 => ⟨S8192, .i32⟩
  | 100 => ⟨S8192, .i32⟩
  | 101 => ⟨S8192x1, .i32⟩
  | 102 => ⟨S8192x1, .i32⟩
  | 103 => ⟨S8192x2, .i32⟩
  | 104 => ⟨S8192x64, .f32⟩
  | 105 => ⟨S8192x64, .f32⟩
  | 106 => ⟨S8192x64, .f32⟩
  | 107 => ⟨S8192x64, .f32⟩
  | 108 => ⟨S8192x1, .f32⟩
  | 109 => ⟨S8192, .f32⟩
  | 110 => ⟨S8192x1, .f32⟩
  | 111 => ⟨S8192x1, .i32⟩
  | 112 => ⟨S8192, .i32⟩
  | 113 => ⟨S_, .i32⟩
  | 114 => ⟨S8192, .i32⟩
  | 115 => ⟨S8192, .i1⟩
  | 116 => ⟨S_, .i32⟩
  | 117 => ⟨S8192, .i32⟩
  | 118 => ⟨S8192, .i32⟩
  | 119 => ⟨S8192, .i32⟩
  | 120 => ⟨S_, .i32⟩
  | 121 => ⟨S8192, .i32⟩
  | 122 => ⟨S8192, .i1⟩
  | 123 => ⟨S_, .i32⟩
  | 124 => ⟨S8192, .i32⟩
  | 125 => ⟨S8192, .i32⟩
  | 126 => ⟨S8192, .i32⟩
  | 127 => ⟨S8192x1, .i32⟩
  | _ => ⟨S4x2048x64, .f32⟩

abbrev hbmTy0_4 (i : Nat) : BufTy := match i % 128 with
  | 0 => ⟨S8192x1, .i32⟩
  | 1 => ⟨S8192x2, .i32⟩
  | 2 => ⟨S8192x64, .f32⟩
  | 3 => ⟨S8192x64, .f32⟩
  | 4 => ⟨S8192x64, .f32⟩
  | 5 => ⟨S8192x64, .f32⟩
  | 6 => ⟨S4x2048x64, .f32⟩
  | 7 => ⟨S4x2048x64, .f32⟩
  | 8 => ⟨S64x100, .f32⟩
  | 9 => ⟨S4x2048x100, .f32⟩
  | 10 => ⟨S1x1x100, .f32⟩
  | 11 => ⟨S4x2048x100, .f32⟩
  | 12 => ⟨S4x2048x100, .f32⟩
  | _ => ⟨S4x2048x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x2048x64, .f32⟩

abbrev bufTy : (tb : Table) → Fin (tcTables nBuf tb) → BufTy
  | .hbm, ⟨i, _⟩ => hbmTy i
  | _, _ => ⟨S4x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_cst_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_cst_3 : Ref sig .tc := ⟨.hbm, 42, rfl⟩
abbrev main_call0_v13 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_2 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_3 : Ref sig .tc := ⟨.hbm, 96, rfl⟩
abbrev main_v55 : Ref sig .tc := ⟨.hbm, 97, rfl⟩
abbrev main_cst_4 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_5 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_6 : Ref sig .tc := ⟨.hbm, 121, rfl⟩
abbrev main_v77 : Ref sig .tc := ⟨.hbm, 122, rfl⟩
abbrev main_v78 : Ref sig .tc := ⟨.hbm, 123, rfl⟩
abbrev main_cst_7 : Ref sig .tc := ⟨.hbm, 124, rfl⟩
abbrev main_v79 : Ref sig .tc := ⟨.hbm, 125, rfl⟩
abbrev main_v80 : Ref sig .tc := ⟨.hbm, 126, rfl⟩
abbrev main_c_8 : Ref sig .tc := ⟨.hbm, 127, rfl⟩
abbrev main_call1_cst : Ref sig .tc := ⟨.hbm, 128, rfl⟩
abbrev main_call1_v0 : Ref sig .tc := ⟨.hbm, 129, rfl⟩
abbrev main_call1_v1 : Ref sig .tc := ⟨.hbm, 130, rfl⟩
abbrev main_call1_cst_0 : Ref sig .tc := ⟨.hbm, 131, rfl⟩
abbrev main_call1_v2 : Ref sig .tc := ⟨.hbm, 132, rfl⟩
abbrev main_call1_v3 : Ref sig .tc := ⟨.hbm, 133, rfl⟩
abbrev main_call1_v4 : Ref sig .tc := ⟨.hbm, 134, rfl⟩
abbrev main_call1_v5 : Ref sig .tc := ⟨.hbm, 135, rfl⟩
abbrev main_call1_v6 : Ref sig .tc := ⟨.hbm, 136, rfl⟩
abbrev main_call1_v7 : Ref sig .tc := ⟨.hbm, 137, rfl⟩
abbrev main_call1_cst_1 : Ref sig .tc := ⟨.hbm, 138, rfl⟩
abbrev main_call1_v8 : Ref sig .tc := ⟨.hbm, 139, rfl⟩
abbrev main_call1_cst_2 : Ref sig .tc := ⟨.hbm, 140, rfl⟩
abbrev main_call1_v9 : Ref sig .tc := ⟨.hbm, 141, rfl⟩
abbrev main_call1_v10 : Ref sig .tc := ⟨.hbm, 142, rfl⟩
abbrev main_call1_v11 : Ref sig .tc := ⟨.hbm, 143, rfl⟩
abbrev main_call1_v12 : Ref sig .tc := ⟨.hbm, 144, rfl⟩
abbrev main_call1_cst_3 : Ref sig .tc := ⟨.hbm, 145, rfl⟩
abbrev main_call1_v13 : Ref sig .tc := ⟨.hbm, 146, rfl⟩
abbrev main_call1_cst_4 : Ref sig .tc := ⟨.hbm, 147, rfl⟩
abbrev main_call1_call0_v0 : Ref sig .tc := ⟨.hbm, 148, rfl⟩
abbrev main_call1_call0_v1 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_cst_9 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_cst_10 : Ref sig .tc := ⟨.hbm, 174, rfl⟩
abbrev main_v104 : Ref sig .tc := ⟨.hbm, 175, rfl⟩
abbrev main_cst_11 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_cst_12 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_values : Ref sig .tc := ⟨.hbm, 188, rfl⟩
abbrev main_indices : Ref sig .tc := ⟨.hbm, 189, rfl⟩
abbrev main_cst_13 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_call2_v0 : Ref sig .tc := ⟨.hbm, 199, rfl⟩
abbrev main_call2_v1 : Ref sig .tc := ⟨.hbm, 200, rfl⟩
abbrev main_call2_cst : Ref sig .tc := ⟨.hbm, 201, rfl⟩
abbrev main_call2_v2 : Ref sig .tc := ⟨.hbm, 202, rfl⟩
abbrev main_call2_v3 : Ref sig .tc := ⟨.hbm, 203, rfl⟩
abbrev main_call2_cst_0 : Ref sig .tc := ⟨.hbm, 204, rfl⟩
abbrev main_call2_v4 : Ref sig .tc := ⟨.hbm, 205, rfl⟩
abbrev main_call2_v5 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_cst_14 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_c_15 : Ref sig .tc := ⟨.hbm, 218, rfl⟩
abbrev main_v133 : Ref sig .tc := ⟨.hbm, 219, rfl⟩
abbrev main_v134 : Ref sig .tc := ⟨.hbm, 220, rfl⟩
abbrev main_c_16 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_c_17 : Ref sig .tc := ⟨.hbm, 225, rfl⟩
abbrev main_v138 : Ref sig .tc := ⟨.hbm, 226, rfl⟩
abbrev main_v139 : Ref sig .tc := ⟨.hbm, 227, rfl⟩
abbrev main_c_18 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_c_19 : Ref sig .tc := ⟨.hbm, 244, rfl⟩
abbrev main_v155 : Ref sig .tc := ⟨.hbm, 245, rfl⟩
abbrev main_v156 : Ref sig .tc := ⟨.hbm, 246, rfl⟩
abbrev main_c_20 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_c_21 : Ref sig .tc := ⟨.hbm, 251, rfl⟩
abbrev main_v160 : Ref sig .tc := ⟨.hbm, 252, rfl⟩
abbrev main_v161 : Ref sig .tc := ⟨.hbm, 253, rfl⟩
abbrev main_c_22 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_cst_23 : Ref sig .tc := ⟨.hbm, 271, rfl⟩
abbrev main_v178 : Ref sig .tc := ⟨.hbm, 272, rfl⟩
abbrev main_v179 : Ref sig .tc := ⟨.hbm, 273, rfl⟩
abbrev main_cst_24 : Ref sig .tc := ⟨.hbm, 274, rfl⟩
abbrev main_v180 : Ref sig .tc := ⟨.hbm, 275, rfl⟩
abbrev main_v181 : Ref sig .tc := ⟨.hbm, 276, rfl⟩
abbrev main_c_25 : Ref sig .tc := ⟨.hbm, 277, rfl⟩
abbrev main_call3_cst : Ref sig .tc := ⟨.hbm, 278, rfl⟩
abbrev main_call3_v0 : Ref sig .tc := ⟨.hbm, 279, rfl⟩
abbrev main_call3_v1 : Ref sig .tc := ⟨.hbm, 280, rfl⟩
abbrev main_call3_cst_0 : Ref sig .tc := ⟨.hbm, 281, rfl⟩
abbrev main_call3_v2 : Ref sig .tc := ⟨.hbm, 282, rfl⟩
abbrev main_call3_v3 : Ref sig .tc := ⟨.hbm, 283, rfl⟩
abbrev main_call3_v4 : Ref sig .tc := ⟨.hbm, 284, rfl⟩
abbrev main_call3_v5 : Ref sig .tc := ⟨.hbm, 285, rfl⟩
abbrev main_call3_v6 : Ref sig .tc := ⟨.hbm, 286, rfl⟩
abbrev main_call3_v7 : Ref sig .tc := ⟨.hbm, 287, rfl⟩
abbrev main_call3_cst_1 : Ref sig .tc := ⟨.hbm, 288, rfl⟩
abbrev main_call3_v8 : Ref sig .tc := ⟨.hbm, 289, rfl⟩
abbrev main_call3_cst_2 : Ref sig .tc := ⟨.hbm, 290, rfl⟩
abbrev main_call3_v9 : Ref sig .tc := ⟨.hbm, 291, rfl⟩
abbrev main_call3_v10 : Ref sig .tc := ⟨.hbm, 292, rfl⟩
abbrev main_call3_v11 : Ref sig .tc := ⟨.hbm, 293, rfl⟩
abbrev main_call3_v12 : Ref sig .tc := ⟨.hbm, 294, rfl⟩
abbrev main_call3_cst_3 : Ref sig .tc := ⟨.hbm, 295, rfl⟩
abbrev main_call3_v13 : Ref sig .tc := ⟨.hbm, 296, rfl⟩
abbrev main_call3_cst_4 : Ref sig .tc := ⟨.hbm, 297, rfl⟩
abbrev main_call3_call0_v0 : Ref sig .tc := ⟨.hbm, 298, rfl⟩
abbrev main_call3_call0_v1 : Ref sig .tc := ⟨.hbm, 299, rfl⟩
abbrev main_v182 : Ref sig .tc := ⟨.hbm, 300, rfl⟩
abbrev main_v183 : Ref sig .tc := ⟨.hbm, 301, rfl⟩
abbrev main_v184 : Ref sig .tc := ⟨.hbm, 302, rfl⟩
abbrev main_cst_26 : Ref sig .tc := ⟨.hbm, 303, rfl⟩
abbrev main_v185 : Ref sig .tc := ⟨.hbm, 304, rfl⟩
abbrev main_v186 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_v190 : Ref sig .tc := ⟨.hbm, 309, rfl⟩
abbrev main_v191 : Ref sig .tc := ⟨.hbm, 310, rfl⟩
abbrev main_v192 : Ref sig .tc := ⟨.hbm, 311, rfl⟩
abbrev main_v193 : Ref sig .tc := ⟨.hbm, 312, rfl⟩
abbrev main_v194 : Ref sig .tc := ⟨.hbm, 313, rfl⟩
abbrev main_v195 : Ref sig .tc := ⟨.hbm, 314, rfl⟩
abbrev main_v196 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_v200 : Ref sig .tc := ⟨.hbm, 319, rfl⟩
abbrev main_v201 : Ref sig .tc := ⟨.hbm, 320, rfl⟩
abbrev main_v202 : Ref sig .tc := ⟨.hbm, 321, rfl⟩
abbrev main_v203 : Ref sig .tc := ⟨.hbm, 322, rfl⟩
abbrev main_v204 : Ref sig .tc := ⟨.hbm, 323, rfl⟩
abbrev main_v205 : Ref sig .tc := ⟨.hbm, 324, rfl⟩
abbrev main_v206 : Ref sig .tc := ⟨.hbm, 325, rfl⟩
abbrev main_v207 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_v211 : Ref sig .tc := ⟨.hbm, 330, rfl⟩
abbrev main_v212 : Ref sig .tc := ⟨.hbm, 331, rfl⟩
abbrev main_v213 : Ref sig .tc := ⟨.hbm, 332, rfl⟩
abbrev main_v214 : Ref sig .tc := ⟨.hbm, 333, rfl⟩
abbrev main_v215 : Ref sig .tc := ⟨.hbm, 334, rfl⟩
abbrev main_v216 : Ref sig .tc := ⟨.hbm, 335, rfl⟩
abbrev main_v217 : Ref sig .tc := ⟨.hbm, 336, rfl⟩
abbrev main_v218 : Ref sig .tc := ⟨.hbm, 337, rfl⟩
abbrev main_v219 : Ref sig .tc := ⟨.hbm, 338, rfl⟩
abbrev main_v220 : Ref sig .tc := ⟨.hbm, 339, rfl⟩
abbrev main_v221 : Ref sig .tc := ⟨.hbm, 340, rfl⟩
abbrev main_v222 : Ref sig .tc := ⟨.hbm, 341, rfl⟩
abbrev main_v223 : Ref sig .tc := ⟨.hbm, 342, rfl⟩
abbrev main_v224 : Ref sig .tc := ⟨.hbm, 343, rfl⟩
abbrev main_v225 : Ref sig .tc := ⟨.hbm, 344, rfl⟩
abbrev main_cst_27 : Ref sig .tc := ⟨.hbm, 345, rfl⟩
abbrev main_v226 : Ref sig .tc := ⟨.hbm, 346, rfl⟩
abbrev main_v227 : Ref sig .tc := ⟨.hbm, 347, rfl⟩
abbrev main_v228 : Ref sig .tc := ⟨.hbm, 348, rfl⟩
abbrev main_cst_28 : Ref sig .tc := ⟨.hbm, 349, rfl⟩
abbrev main_v229 : Ref sig .tc := ⟨.hbm, 350, rfl⟩
abbrev main_cst_29 : Ref sig .tc := ⟨.hbm, 351, rfl⟩
abbrev main_v230 : Ref sig .tc := ⟨.hbm, 352, rfl⟩
abbrev main_v231 : Ref sig .tc := ⟨.hbm, 353, rfl⟩
abbrev main_v232 : Ref sig .tc := ⟨.hbm, 354, rfl⟩
abbrev main_v233 : Ref sig .tc := ⟨.hbm, 355, rfl⟩
abbrev main_v234 : Ref sig .tc := ⟨.hbm, 356, rfl⟩
abbrev main_v235 : Ref sig .tc := ⟨.hbm, 357, rfl⟩
abbrev main_cst_30 : Ref sig .tc := ⟨.hbm, 358, rfl⟩
abbrev main_v236 : Ref sig .tc := ⟨.hbm, 359, rfl⟩
abbrev main_v237 : Ref sig .tc := ⟨.hbm, 360, rfl⟩
abbrev main_v238 : Ref sig .tc := ⟨.hbm, 361, rfl⟩
abbrev main_v239 : Ref sig .tc := ⟨.hbm, 362, rfl⟩
abbrev main_v240 : Ref sig .tc := ⟨.hbm, 363, rfl⟩
abbrev main_v241 : Ref sig .tc := ⟨.hbm, 364, rfl⟩
abbrev main_v242 : Ref sig .tc := ⟨.hbm, 365, rfl⟩
abbrev main_v243 : Ref sig .tc := ⟨.hbm, 366, rfl⟩
abbrev main_v244 : Ref sig .tc := ⟨.hbm, 367, rfl⟩
abbrev main_v245 : Ref sig .tc := ⟨.hbm, 368, rfl⟩
abbrev main_v246 : Ref sig .tc := ⟨.hbm, 369, rfl⟩
abbrev main_v247 : Ref sig .tc := ⟨.hbm, 370, rfl⟩
abbrev main_v248 : Ref sig .tc := ⟨.hbm, 371, rfl⟩
abbrev main_v249 : Ref sig .tc := ⟨.hbm, 372, rfl⟩
abbrev main_v250 : Ref sig .tc := ⟨.hbm, 373, rfl⟩
abbrev main_cst_31 : Ref sig .tc := ⟨.hbm, 374, rfl⟩
abbrev main_v251 : Ref sig .tc := ⟨.hbm, 375, rfl⟩
abbrev main_v252 : Ref sig .tc := ⟨.hbm, 376, rfl⟩
abbrev main_cst_32 : Ref sig .tc := ⟨.hbm, 377, rfl⟩
abbrev main_v253 : Ref sig .tc := ⟨.hbm, 378, rfl⟩
abbrev main_v254 : Ref sig .tc := ⟨.hbm, 379, rfl⟩
abbrev main_c_33 : Ref sig .tc := ⟨.hbm, 380, rfl⟩
abbrev main_call4_cst : Ref sig .tc := ⟨.hbm, 381, rfl⟩
abbrev main_call4_v0 : Ref sig .tc := ⟨.hbm, 382, rfl⟩
abbrev main_call4_v1 : Ref sig .tc := ⟨.hbm, 383, rfl⟩
abbrev main_call4_cst_0 : Ref sig .tc := ⟨.hbm, 384, rfl⟩
abbrev main_call4_v2 : Ref sig .tc := ⟨.hbm, 385, rfl⟩
abbrev main_call4_v3 : Ref sig .tc := ⟨.hbm, 386, rfl⟩
abbrev main_call4_v4 : Ref sig .tc := ⟨.hbm, 387, rfl⟩
abbrev main_call4_v5 : Ref sig .tc := ⟨.hbm, 388, rfl⟩
abbrev main_call4_v6 : Ref sig .tc := ⟨.hbm, 389, rfl⟩
abbrev main_call4_v7 : Ref sig .tc := ⟨.hbm, 390, rfl⟩
abbrev main_call4_cst_1 : Ref sig .tc := ⟨.hbm, 391, rfl⟩
abbrev main_call4_v8 : Ref sig .tc := ⟨.hbm, 392, rfl⟩
abbrev main_call4_cst_2 : Ref sig .tc := ⟨.hbm, 393, rfl⟩
abbrev main_call4_v9 : Ref sig .tc := ⟨.hbm, 394, rfl⟩
abbrev main_call4_v10 : Ref sig .tc := ⟨.hbm, 395, rfl⟩
abbrev main_call4_v11 : Ref sig .tc := ⟨.hbm, 396, rfl⟩
abbrev main_call4_v12 : Ref sig .tc := ⟨.hbm, 397, rfl⟩
abbrev main_call4_cst_3 : Ref sig .tc := ⟨.hbm, 398, rfl⟩
abbrev main_call4_v13 : Ref sig .tc := ⟨.hbm, 399, rfl⟩
abbrev main_call4_cst_4 : Ref sig .tc := ⟨.hbm, 400, rfl⟩
abbrev main_call4_call0_v0 : Ref sig .tc := ⟨.hbm, 401, rfl⟩
abbrev main_call4_call0_v1 : Ref sig .tc := ⟨.hbm, 402, rfl⟩
abbrev main_v255 : Ref sig .tc := ⟨.hbm, 403, rfl⟩
abbrev main_v256 : Ref sig .tc := ⟨.hbm, 404, rfl⟩
abbrev main_v257 : Ref sig .tc := ⟨.hbm, 405, rfl⟩
abbrev main_cst_34 : Ref sig .tc := ⟨.hbm, 406, rfl⟩
abbrev main_v258 : Ref sig .tc := ⟨.hbm, 407, rfl⟩
abbrev main_v259 : Ref sig .tc := ⟨.hbm, 408, rfl⟩
abbrev main_v260 : Ref sig .tc := ⟨.hbm, 409, rfl⟩
abbrev main_v261 : Ref sig .tc := ⟨.hbm, 410, rfl⟩
abbrev main_v262 : Ref sig .tc := ⟨.hbm, 411, rfl⟩
abbrev main_v263 : Ref sig .tc := ⟨.hbm, 412, rfl⟩
abbrev main_v264 : Ref sig .tc := ⟨.hbm, 413, rfl⟩
abbrev main_v265 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_v269 : Ref sig .tc := ⟨.hbm, 418, rfl⟩
abbrev main_v270 : Ref sig .tc := ⟨.hbm, 419, rfl⟩
abbrev main_v271 : Ref sig .tc := ⟨.hbm, 420, rfl⟩
abbrev main_v272 : Ref sig .tc := ⟨.hbm, 421, rfl⟩
abbrev main_v273 : Ref sig .tc := ⟨.hbm, 422, rfl⟩
abbrev main_v274 : Ref sig .tc := ⟨.hbm, 423, rfl⟩
abbrev main_v275 : Ref sig .tc := ⟨.hbm, 424, rfl⟩
abbrev main_v276 : Ref sig .tc := ⟨.hbm, 425, rfl⟩
abbrev main_v277 : Ref sig .tc := ⟨.hbm, 426, rfl⟩
abbrev main_cst_35 : Ref sig .tc := ⟨.hbm, 427, rfl⟩
abbrev main_v278 : Ref sig .tc := ⟨.hbm, 428, rfl⟩
abbrev main_cst_36 : Ref sig .tc := ⟨.hbm, 429, rfl⟩
abbrev main_v279 : Ref sig .tc := ⟨.hbm, 430, rfl⟩
abbrev main_v280 : Ref sig .tc := ⟨.hbm, 431, rfl⟩
abbrev main_v281 : Ref sig .tc := ⟨.hbm, 432, rfl⟩
abbrev main_v282 : Ref sig .tc := ⟨.hbm, 433, rfl⟩
abbrev main_v283 : Ref sig .tc := ⟨.hbm, 434, rfl⟩
abbrev main_v284 : Ref sig .tc := ⟨.hbm, 435, rfl⟩
abbrev main_cst_37 : Ref sig .tc := ⟨.hbm, 436, rfl⟩
abbrev main_v285 : Ref sig .tc := ⟨.hbm, 437, rfl⟩
abbrev main_v286 : Ref sig .tc := ⟨.hbm, 438, rfl⟩
abbrev main_v287 : Ref sig .tc := ⟨.hbm, 439, rfl⟩
abbrev main_v288 : Ref sig .tc := ⟨.hbm, 440, rfl⟩
abbrev main_values_38 : Ref sig .tc := ⟨.hbm, 441, rfl⟩
abbrev main_indices_39 : Ref sig .tc := ⟨.hbm, 442, rfl⟩
abbrev main_cst_40 : Ref sig .tc := ⟨.hbm, 443, rfl⟩
abbrev main_v289 : Ref sig .tc := ⟨.hbm, 444, rfl⟩
abbrev main_v290 : Ref sig .tc := ⟨.hbm, 445, rfl⟩
abbrev main_v291 : Ref sig .tc := ⟨.hbm, 446, rfl⟩
abbrev main_v292 : Ref sig .tc := ⟨.hbm, 447, rfl⟩
abbrev main_v293 : Ref sig .tc := ⟨.hbm, 448, rfl⟩
abbrev main_v294 : Ref sig .tc := ⟨.hbm, 449, rfl⟩
abbrev main_v295 : Ref sig .tc := ⟨.hbm, 450, rfl⟩
abbrev main_v296 : Ref sig .tc := ⟨.hbm, 451, rfl⟩
abbrev main_call5_v0 : Ref sig .tc := ⟨.hbm, 452, rfl⟩
abbrev main_call5_v1 : Ref sig .tc := ⟨.hbm, 453, rfl⟩
abbrev main_call5_cst : Ref sig .tc := ⟨.hbm, 454, rfl⟩
abbrev main_call5_v2 : Ref sig .tc := ⟨.hbm, 455, rfl⟩
abbrev main_call5_v3 : Ref sig .tc := ⟨.hbm, 456, rfl⟩
abbrev main_call5_cst_0 : Ref sig .tc := ⟨.hbm, 457, rfl⟩
abbrev main_call5_v4 : Ref sig .tc := ⟨.hbm, 458, rfl⟩
abbrev main_call5_v5 : Ref sig .tc := ⟨.hbm, 459, rfl⟩
abbrev main_v297 : Ref sig .tc := ⟨.hbm, 460, rfl⟩
abbrev main_v298 : Ref sig .tc := ⟨.hbm, 461, rfl⟩
abbrev main_v299 : Ref sig .tc := ⟨.hbm, 462, rfl⟩
abbrev main_cst_41 : Ref sig .tc := ⟨.hbm, 463, rfl⟩
abbrev main_v300 : Ref sig .tc := ⟨.hbm, 464, rfl⟩
abbrev main_v301 : Ref sig .tc := ⟨.hbm, 465, rfl⟩
abbrev main_v302 : Ref sig .tc := ⟨.hbm, 466, rfl⟩
abbrev main_v303 : Ref sig .tc := ⟨.hbm, 467, rfl⟩
abbrev main_v304 : Ref sig .tc := ⟨.hbm, 468, rfl⟩
abbrev main_v305 : Ref sig .tc := ⟨.hbm, 469, rfl⟩
abbrev main_v306 : Ref sig .tc := ⟨.hbm, 470, rfl⟩
abbrev main_c_42 : Ref sig .tc := ⟨.hbm, 471, rfl⟩
abbrev main_v307 : Ref sig .tc := ⟨.hbm, 472, rfl⟩
abbrev main_v308 : Ref sig .tc := ⟨.hbm, 473, rfl⟩
abbrev main_c_43 : Ref sig .tc := ⟨.hbm, 474, rfl⟩
abbrev main_v309 : Ref sig .tc := ⟨.hbm, 475, rfl⟩
abbrev main_v310 : Ref sig .tc := ⟨.hbm, 476, rfl⟩
abbrev main_v311 : Ref sig .tc := ⟨.hbm, 477, rfl⟩
abbrev main_c_44 : Ref sig .tc := ⟨.hbm, 478, rfl⟩
abbrev main_v312 : Ref sig .tc := ⟨.hbm, 479, rfl⟩
abbrev main_v313 : Ref sig .tc := ⟨.hbm, 480, rfl⟩
abbrev main_c_45 : Ref sig .tc := ⟨.hbm, 481, rfl⟩
abbrev main_v314 : Ref sig .tc := ⟨.hbm, 482, rfl⟩
abbrev main_v315 : Ref sig .tc := ⟨.hbm, 483, rfl⟩
abbrev main_v316 : Ref sig .tc := ⟨.hbm, 484, rfl⟩
abbrev main_v317 : Ref sig .tc := ⟨.hbm, 485, rfl⟩
abbrev main_v318 : Ref sig .tc := ⟨.hbm, 486, rfl⟩
abbrev main_v319 : Ref sig .tc := ⟨.hbm, 487, rfl⟩
abbrev main_v320 : Ref sig .tc := ⟨.hbm, 488, rfl⟩
abbrev main_v321 : Ref sig .tc := ⟨.hbm, 489, rfl⟩
abbrev main_v322 : Ref sig .tc := ⟨.hbm, 490, rfl⟩
abbrev main_v323 : Ref sig .tc := ⟨.hbm, 491, rfl⟩
abbrev main_v324 : Ref sig .tc := ⟨.hbm, 492, rfl⟩
abbrev main_v325 : Ref sig .tc := ⟨.hbm, 493, rfl⟩
abbrev main_v326 : Ref sig .tc := ⟨.hbm, 494, rfl⟩
abbrev main_v327 : Ref sig .tc := ⟨.hbm, 495, rfl⟩
abbrev main_v328 : Ref sig .tc := ⟨.hbm, 496, rfl⟩
abbrev main_c_46 : Ref sig .tc := ⟨.hbm, 497, rfl⟩
abbrev main_v329 : Ref sig .tc := ⟨.hbm, 498, rfl⟩
abbrev main_v330 : Ref sig .tc := ⟨.hbm, 499, rfl⟩
abbrev main_c_47 : Ref sig .tc := ⟨.hbm, 500, rfl⟩
abbrev main_v331 : Ref sig .tc := ⟨.hbm, 501, rfl⟩
abbrev main_v332 : Ref sig .tc := ⟨.hbm, 502, rfl⟩
abbrev main_v333 : Ref sig .tc := ⟨.hbm, 503, rfl⟩
abbrev main_c_48 : Ref sig .tc := ⟨.hbm, 504, rfl⟩
abbrev main_v334 : Ref sig .tc := ⟨.hbm, 505, rfl⟩
abbrev main_v335 : Ref sig .tc := ⟨.hbm, 506, rfl⟩
abbrev main_c_49 : Ref sig .tc := ⟨.hbm, 507, rfl⟩
abbrev main_v336 : Ref sig .tc := ⟨.hbm, 508, rfl⟩
abbrev main_v337 : Ref sig .tc := ⟨.hbm, 509, rfl⟩
abbrev main_v338 : Ref sig .tc := ⟨.hbm, 510, rfl⟩
abbrev main_v339 : Ref sig .tc := ⟨.hbm, 511, rfl⟩
abbrev main_v340 : Ref sig .tc := ⟨.hbm, 512, rfl⟩
abbrev main_v341 : Ref sig .tc := ⟨.hbm, 513, rfl⟩
abbrev main_v342 : Ref sig .tc := ⟨.hbm, 514, rfl⟩
abbrev main_v343 : Ref sig .tc := ⟨.hbm, 515, rfl⟩
abbrev main_v344 : Ref sig .tc := ⟨.hbm, 516, rfl⟩
abbrev main_v345 : Ref sig .tc := ⟨.hbm, 517, rfl⟩
abbrev main_v346 : Ref sig .tc := ⟨.hbm, 518, rfl⟩
abbrev main_v347 : Ref sig .tc := ⟨.hbm, 519, rfl⟩
abbrev main_v348 : Ref sig .tc := ⟨.hbm, 520, rfl⟩
abbrev main_v349 : Ref sig .tc := ⟨.hbm, 521, rfl⟩
abbrev main_v350 : Ref sig .tc := ⟨.hbm, 522, rfl⟩
abbrev main_v351 : Ref sig .tc := ⟨.hbm, 523, rfl⟩
abbrev main_v352 : Ref sig .tc := ⟨.hbm, 524, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Claim

@[expose] public section

noncomputable section

namespace Cert.Proof

open Idealize.ShloMosaic Idealize.SL.Sem

/-- The shape facts the precondition's operations take, each decided. -/
theorem preFacts : Cert.Pre_scores_finite.Facts := by
  constructor <;> decide

/-- The kernel ends without a fault, its arguments unchanged and its counters at zero. -/
theorem frameKernel : Cert.quiescent_Kernel (hKernel := Cert.Kernel.Gen.facts) :=
  fun m g _ => Cert.Kernel.Gen.frame m g

/-- The idealized kernel ends without a fault, its arguments unchanged and its counters at zero. -/
theorem frameKernelIdeal : Cert.quiescent_KernelIdeal (hKernelIdeal := Cert.KernelIdeal.Gen.facts) :=
  fun m g _ => Cert.KernelIdeal.Gen.frame m g

/-- The reference ends without a fault, its arguments unchanged; it declares no counter. -/
theorem frameReferenceIdeal : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run m g)

/-- The idealized kernel's frame, under the precondition the value claim reads. -/
theorem frameKernelIdealPre : Cert.quiescent_KernelIdeal_pre_scores_finite
    (hKernelIdeal := Cert.KernelIdeal.Gen.facts) (hPre_scores_finite := preFacts) :=
  fun m g _ => frameKernelIdeal m g trivial

/-- The reference's frame, under the precondition the value claim reads. -/
theorem frameReferenceIdealPre : Cert.quiescent_ReferenceIdeal_pre_scores_finite
    (hReferenceIdeal := Cert.ReferenceIdeal.Gen.facts) (hPre_scores_finite := preFacts) :=
  fun m g _ => frameReferenceIdeal m g trivial

end Cert.Proof

end
-- ==== Proof.Spec.lean ====
module

public import Idealize.ShloMosaic.Lib.Pointwise
public import Idealize.ShloMosaic.Lib.SortFacts

@[expose] public section

noncomputable section

/-! The forward pass in coordinates over the extended reals: what the reference computes at a row, and what the
kernel computes there. -/

namespace Cert.Spec

open Idealize.ShloMosaic

/-- The mean of a row of 64. -/
def mean (x : Fin 64 → EReal) : EReal := Ideal.div (∑ k, x k) ((64 : ℝ) : EReal)

/-- A row less its mean. -/
def cen (x : Fin 64 → EReal) (j : Fin 64) : EReal := x j - mean x

/-- The mean of the squares of a row less its mean. -/
def vari (x : Fin 64 → EReal) : EReal := mean fun k => cen x k * cen x k

/-- The small number a normalization adds to the variance. -/
def eps : EReal := Ideal.ofBits .f32 0x3727C5AC#32

/-- A row normalized, scaled by `g` and shifted by `b`. -/
def ln (g b x : Fin 64 → EReal) (j : Fin 64) : EReal :=
  Ideal.div (cen x j) (Ideal.sqrt (vari x + eps)) * g j + b j

/-- A linear map with a bias. -/
def lin {m n : ℕ} (W : Fin n → Fin m → EReal) (b : Fin n → EReal) (h : Fin m → EReal) (o : Fin n) : EReal :=
  (∑ k, h k * W o k) + b o

/-- The greatest entry of a row. -/
def top {n : ℕ} (s : Fin n → EReal) : EReal := Finset.univ.fold max ⊥ s

/-- The exponentials of a row less its greatest entry. -/
def expo {n : ℕ} (s : Fin n → EReal) (t : Fin n) : EReal := Ideal.exp (s t - top s)

/-- The softmax of a row. -/
def soft {n : ℕ} (s : Fin n → EReal) (t : Fin n) : EReal := Ideal.div (expo s t) (∑ u, expo s u)

/-- The score of a query and a key. -/
def score (q k : Fin 64 → EReal) : EReal := Ideal.div (∑ d, q d * k d) ((8 : ℝ) : EReal)

/-- Attention as the reference has it: the weights divided first. -/
def attR {n : ℕ} (s : Fin n → EReal) (v : Fin n → Fin 64 → EReal) (d : Fin 64) : EReal := ∑ t, soft s t * v t d

/-- Attention as the kernel has it: the sum divided last. -/
def attK {n : ℕ} (s : Fin n → EReal) (v : Fin n → Fin 64 → EReal) (d : Fin 64) : EReal :=
  Ideal.div (∑ t, expo s t * v t d) (∑ u, expo s u)

/-- Which of two experts comes first when the greater weight is first and the lower index breaks ties. -/
def before (p : Fin 4 → EReal) (k k' : Fin 4) : Bool := Ideal.cmp .ogt (p k) (p k') == 1#1

/-- The expert with the greatest weight. -/
def fst (p : Fin 4 → EReal) : Fin 4 := sortedFrom (before p) 0

/-- The expert with the second greatest weight. -/
def snd (p : Fin 4 → EReal) : Fin 4 := sortedFrom (before p) 1

/-- The experts' outputs weighted as the reference has it: the two chosen ones. -/
def mixR (p o : Fin 4 → EReal) : EReal :=
  Ideal.div (p (fst p)) (p (fst p) + p (snd p)) * o (fst p) + Ideal.div (p (snd p)) (p (fst p) + p (snd p)) * o (snd p)

/-- The least index at which `p` attains its greatest entry, as a word. -/
def arg (p : Fin 4 → EReal) : BitVec 32 :=
  Finset.univ.fold IntOp.minsi 0x7fffffff#32 fun e : Fin 4 => if p e = top p then BitVec.ofNat 32 e.val else 4#32

/-- The weights with the greatest one left out. -/
def rest (p : Fin 4 → EReal) (e : Fin 4) : EReal := if BitVec.ofNat 32 e.val = arg p then ⊥ else p e

/-- The kernel's weight of each expert: the two greatest over their sum, zero elsewhere. -/
def wgt (p : Fin 4 → EReal) (e : Fin 4) : EReal :=
  Ideal.div ((if BitVec.ofNat 32 e.val = arg p then top p else 0)
    + (if BitVec.ofNat 32 e.val = arg (rest p) then top (rest p) else 0)) (top p + top (rest p))

/-- The experts' outputs weighted as the kernel has it: all four. -/
def mixK (p o : Fin 4 → EReal) : EReal := wgt p 0 * o 0 + wgt p 1 * o 1 + wgt p 2 * o 2 + wgt p 3 * o 3

/-- The gate of an expert's hidden layer. -/
def silu (x : EReal) : EReal := x * Ideal.logistic x

/-- One expert's output at a row. -/
def expert (U : Fin 256 → Fin 64 → EReal) (D : Fin 64 → Fin 128 → EReal) (h : Fin 64 → EReal) (j : Fin 64) : EReal :=
  ∑ f : Fin 128, silu (∑ k, h k * U ⟨f.val, by omega⟩ k) * (∑ k, h k * U ⟨128 + f.val, by omega⟩ k) * D j f

/-- One layer's weights. -/
structure Weights where
  /-- the first normalization's scale -/
  g1 : Fin 64 → EReal
  /-- and shift -/
  b1 : Fin 64 → EReal
  /-- the query, key and value projections -/
  qkv : Fin 192 → Fin 64 → EReal
  /-- and their biases -/
  bqkv : Fin 192 → EReal
  /-- the output projection -/
  out : Fin 64 → Fin 64 → EReal
  /-- and its bias -/
  bout : Fin 64 → EReal
  /-- the second normalization's scale -/
  g2 : Fin 64 → EReal
  /-- and shift -/
  b2 : Fin 64 → EReal
  /-- the gate -/
  gate : Fin 4 → Fin 64 → EReal
  /-- the experts' first layers -/
  up : Fin 4 → Fin 256 → Fin 64 → EReal
  /-- and second layers -/
  down : Fin 4 → Fin 64 → Fin 128 → EReal

namespace Weights

variable (P : Weights)

/-- The queries of a row. -/
def q (x : Fin 64 → EReal) (d : Fin 64) : EReal :=
  (∑ k, ln P.g1 P.b1 x k * P.qkv ⟨d.val, by omega⟩ k) + P.bqkv ⟨d.val, by omega⟩

/-- The keys of a row. -/
def k (x : Fin 64 → EReal) (d : Fin 64) : EReal :=
  (∑ k, ln P.g1 P.b1 x k * P.qkv ⟨64 + d.val, by omega⟩ k) + P.bqkv ⟨64 + d.val, by omega⟩

/-- The values of a row. -/
def v (x : Fin 64 → EReal) (d : Fin 64) : EReal :=
  (∑ k, ln P.g1 P.b1 x k * P.qkv ⟨128 + d.val, by omega⟩ k) + P.bqkv ⟨128 + d.val, by omega⟩

/-- The scores of row `r` against every row. -/
def scores (X : Fin 2048 → Fin 64 → EReal) (r t : Fin 2048) : EReal := score (P.q (X r)) (P.k (X t))

/-- The rows after attention, by either form `att` of it. -/
def mid (att : (Fin 2048 → EReal) → (Fin 2048 → Fin 64 → EReal) → Fin 64 → EReal)
    (X : Fin 2048 → Fin 64 → EReal) (r : Fin 2048) (j : Fin 64) : EReal :=
  X r j + lin P.out P.bout (att (P.scores X r) fun t => P.v (X t)) j

/-- A row after the experts, by either form `mix` of their weighting. -/
def ffn (mix : (Fin 4 → EReal) → (Fin 4 → EReal) → EReal) (x : Fin 64 → EReal) (j : Fin 64) : EReal :=
  x j + mix (soft fun e => ∑ k, ln P.g2 P.b2 x k * P.gate e k) fun e => expert (P.up e) (P.down e) (ln P.g2 P.b2 x) j

/-- One layer of the reference. -/
def layerR (X : Fin 2048 → Fin 64 → EReal) (r : Fin 2048) : Fin 64 → EReal := P.ffn mixR (P.mid attR X r)

/-- One layer of the kernel. -/
def layerK (X : Fin 2048 → Fin 64 → EReal) (r : Fin 2048) : Fin 64 → EReal := P.ffn mixK (P.mid attK X r)

/-- The weights the scores read are real numbers. -/
structure Tame : Prop where
  /-- the first normalization's scale -/
  g1 : ∀ j, ∃ r : ℝ, P.g1 j = r
  /-- and shift -/
  b1 : ∀ j, ∃ r : ℝ, P.b1 j = r
  /-- the query and key projections -/
  qk : ∀ o : Fin 192, o.val < 128 → ∀ k, ∃ r : ℝ, P.qkv o k = r
  /-- and their biases -/
  bqk : ∀ o : Fin 192, o.val < 128 → ∃ r : ℝ, P.bqkv o = r

end Weights

end Cert.Spec

end
-- ==== Proof.Math.lean ====
module

public import proofs.«01_k».proof.Proof.Spec

@[expose] public section

noncomputable section

/-! The two forms of one layer agree when the weights the scores read are real numbers. -/

namespace Cert.Spec

open Idealize.ShloMosaic

/-- An extended real that is a real number. -/
def IsReal (x : EReal) : Prop := ∃ r : ℝ, x = r

/-- What is neither infinity is real. -/
theorem isReal_of_ne {x : EReal} (h : x ≠ ⊥) (h' : x ≠ ⊤) : IsReal x :=
  ⟨x.toReal, (EReal.coe_toReal h' h).symm⟩

/-- Sums of real numbers are real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- Products of real numbers are real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A sum of coerced reals is the coerced sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Finite sums of real numbers are real. -/
theorem isReal_sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A quotient by a real number other than zero is a product with its inverse. -/
theorem div_real (x : EReal) {r : ℝ} (h : r ≠ 0) : Ideal.div x (r : EReal) = x * ((r⁻¹ : ℝ) : EReal) := by
  have h' : (r : EReal) ≠ 0 := by simpa using h
  rw [Ideal.div, if_neg h', EReal.coe_inv]

/-- Quotients of real numbers by one other than zero are real. -/
theorem IsReal.div {x : EReal} (hx : IsReal x) {r : ℝ} (h : r ≠ 0) : IsReal (Ideal.div x (r : EReal)) := by
  rw [div_real x h]; exact hx.mul ⟨_, rfl⟩

/-- A quotient by `⊤` is zero. -/
theorem div_top (x : EReal) : Ideal.div x ⊤ = 0 := by
  rw [Ideal.div, if_neg (by simp), EReal.inv_top, mul_zero]

/-- A quotient by `⊥` is zero. -/
theorem div_bot (x : EReal) : Ideal.div x ⊥ = 0 := by
  rw [Ideal.div, if_neg (by simp), EReal.inv_bot, mul_zero]

/-- The exponential of `⊥` is zero. -/
theorem exp_bot : Ideal.exp (⊥ : EReal) = 0 := rfl

/-- A square is not negative. -/
theorem sq_nonneg (x : EReal) : 0 ≤ x * x := by
  induction x using EReal.rec with
  | bot => simp
  | top => simp
  | coe r => rw [← EReal.coe_mul]; exact_mod_cast mul_self_nonneg r

/-- What squares to less than `⊤` is real. -/
theorem isReal_of_sq {x : EReal} (h : x * x ≠ ⊤) : IsReal x := by
  induction x using EReal.rec with
  | bot => simp at h
  | top => simp at h
  | coe r => exact ⟨r, rfl⟩

/-- The small number of a normalization is a positive real. -/
theorem eps_pos : ∃ r : ℝ, 0 < r ∧ eps = r := by
  refine ⟨(10995116 : ℝ) * 2 ^ (-40 : ℤ), by positivity, ?_⟩
  simp [eps, Ideal.ofBits, Ideal.ieee, -EReal.coe_mul]

/-- A normalized row is real, whatever the row, when the scale and the shift are. -/
theorem isReal_ln {g b : Fin 64 → EReal} (hg : ∀ j, IsReal (g j)) (hb : ∀ j, IsReal (b j)) (x : Fin 64 → EReal)
    (j : Fin 64) : IsReal (ln g b x j) := by
  refine IsReal.add (IsReal.mul ?_ (hg j)) (hb j)
  obtain ⟨ε, hε, he⟩ := eps_pos
  have h0 : ∀ k, 0 ≤ cen x k * cen x k := fun k => sq_nonneg _
  have h64 : (64 : ℝ) ≠ 0 := by norm_num
  by_cases hS : (∑ k, cen x k * cen x k) = ⊤
  · have hv : vari x = ⊤ := by
      rw [vari, mean, hS, div_real _ h64]
      exact EReal.top_mul_coe_of_pos (by norm_num)
    rw [hv, he, EReal.top_add_coe]
    have ht : Ideal.sqrt (⊤ : EReal) = ⊤ := rfl
    exact ⟨0, by rw [ht, div_top, EReal.coe_zero]⟩
  · have hle : ∀ k, cen x k * cen x k ≤ ∑ k, cen x k * cen x k := fun k =>
      Finset.single_le_sum (f := fun k => cen x k * cen x k) (fun i _ => h0 i) (Finset.mem_univ k)
    have hc : ∀ k, IsReal (cen x k) := fun k => isReal_of_sq fun h => hS (top_le_iff.mp (h ▸ hle k))
    have hSr : IsReal (∑ k, cen x k * cen x k) := isReal_sum _ _ fun k _ => (hc k).mul (hc k)
    obtain ⟨s, hs⟩ := hSr
    have hs0 : 0 ≤ s := by
      have : (0 : EReal) ≤ ∑ k, cen x k * cen x k := Finset.sum_nonneg fun k _ => h0 k
      rw [hs] at this; exact_mod_cast this
    have hv : vari x + eps = ((s * (64 : ℝ)⁻¹ + ε : ℝ) : EReal) := by
      rw [vari, mean, hs, div_real _ h64, he, EReal.coe_add, EReal.coe_mul]
    have hp : 0 < s * (64 : ℝ)⁻¹ + ε := by positivity
    rw [hv]
    have : Ideal.sqrt ((s * (64 : ℝ)⁻¹ + ε : ℝ) : EReal) = ((Real.sqrt (s * (64 : ℝ)⁻¹ + ε) : ℝ) : EReal) := by
      show (if s * (64 : ℝ)⁻¹ + ε < 0 then (⊥ : EReal) else _) = _
      rw [if_neg (not_lt.mpr hp.le)]
    rw [this]
    exact (hc j).div (Real.sqrt_pos.mpr hp).ne'

/-- The greatest entry bounds every entry. -/
theorem le_top' {n : ℕ} (s : Fin n → EReal) (t : Fin n) : s t ≤ top s :=
  Finset.le_sup (f := s) (Finset.mem_univ t)

/-- The greatest entry is attained. -/
theorem exists_top {n : ℕ} [NeZero n] (s : Fin n → EReal) : ∃ t, top s = s t := by
  obtain ⟨t, -, h⟩ := Finset.exists_mem_eq_sup Finset.univ ⟨(0 : Fin n), Finset.mem_univ _⟩ s
  exact ⟨t, h⟩

/-- An upper bound that is attained is the greatest entry. -/
theorem top_eq {n : ℕ} (s : Fin n → EReal) (f : Fin n) (h : ∀ t, s t ≤ s f) : top s = s f :=
  le_antisymm (Finset.sup_le fun t _ => h t) (le_top' s f)

/-- With a real greatest entry the exponentials are real and not negative, and one of them is 1. -/
theorem expo_real {n : ℕ} [NeZero n] {s : Fin n → EReal} (h : IsReal (top s)) :
    ∃ f : Fin n → ℝ, (∀ t, expo s t = f t) ∧ (∀ t, 0 ≤ f t) ∧ ∃ t, f t = 1 := by
  obtain ⟨M, hM⟩ := h
  have key : ∀ t, ∃ r : ℝ, expo s t = r ∧ 0 ≤ r ∧ (s t = top s → r = 1) := fun t => by
    have hle := le_top' s t
    rw [expo, hM] at *
    generalize s t = y at *
    induction y using EReal.rec with
    | bot => exact ⟨0, by rw [EReal.bot_sub, exp_bot, EReal.coe_zero], le_rfl, fun h => by simp at h⟩
    | top => simp at hle
    | coe r =>
      refine ⟨Real.exp (r - M), ?_, (Real.exp_pos _).le, fun h => ?_⟩
      · rw [← EReal.coe_sub]; rfl
      · have : r = M := by exact_mod_cast h
        rw [this, sub_self, Real.exp_zero]
  choose f hf using key
  obtain ⟨t, ht⟩ := exists_top s
  exact ⟨f, fun t => (hf t).1, fun t => (hf t).2.1, t, (hf t).2.2 ht.symm⟩

/-- A product with a real number that is not negative goes into a finite sum. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- With real scores the two forms of attention agree, whatever the values are. -/
theorem att_eq {n : ℕ} [NeZero n] {s : Fin n → EReal} (h : ∀ t, IsReal (s t)) (v : Fin n → Fin 64 → EReal) (d : Fin 64) :
    attK s v d = attR s v d := by
  have hM : IsReal (top s) := by obtain ⟨t, ht⟩ := exists_top s; rw [ht]; exact h t
  obtain ⟨f, hf, h0, t₁, h1⟩ := expo_real hM
  have hD : (∑ u, expo s u) = ((∑ u, f u : ℝ) : EReal) := by
    rw [coe_sum]; exact Finset.sum_congr rfl fun u _ => hf u
  have hp : 0 < ∑ u, f u := Finset.sum_pos' (fun i _ => h0 i) ⟨t₁, Finset.mem_univ _, by rw [h1]; norm_num⟩
  rw [attK, attR, hD, div_real _ hp.ne', sum_mul_real _ _ (inv_nonneg.mpr hp.le)]
  refine Finset.sum_congr rfl fun t _ => ?_
  rw [soft, hD, div_real _ hp.ne', mul_right_comm]

/-- The softmax of four: every weight is `⊥`, or all are real and not negative and one is positive. -/
theorem soft_cases (l : Fin 4 → EReal) :
    (∀ e, soft l e = ⊥) ∨ ((∀ e, ∃ r : ℝ, soft l e = r ∧ 0 ≤ r) ∧ ∃ e, 0 < soft l e) := by
  by_cases h : IsReal (top l)
  · right
    obtain ⟨f, hf, h0, t₁, h1⟩ := expo_real h
    have hD : (∑ u, expo l u) = ((∑ u, f u : ℝ) : EReal) := by
      rw [coe_sum]; exact Finset.sum_congr rfl fun u _ => hf u
    have hp : 0 < ∑ u, f u := Finset.sum_pos' (fun i _ => h0 i) ⟨t₁, Finset.mem_univ _, by rw [h1]; norm_num⟩
    have hs : ∀ e, soft l e = ((f e * (∑ u, f u)⁻¹ : ℝ) : EReal) := fun e => by
      rw [soft, hD, div_real _ hp.ne', hf e, EReal.coe_mul]
    refine ⟨fun e => ⟨_, hs e, mul_nonneg (h0 e) (inv_nonneg.mpr hp.le)⟩, t₁, ?_⟩
    rw [hs, h1, one_mul]
    exact_mod_cast inv_pos.mpr hp
  · left
    have hz : ∀ e, expo l e = 0 := fun e => by
      have hle := le_top' l e
      rw [expo]
      by_cases hb : top l = ⊥
      · rw [hb] at hle ⊢; rw [le_bot_iff.mp hle, EReal.bot_sub, exp_bot]
      · have ht : top l = ⊤ := by
          by_contra hne; exact h (isReal_of_ne hb hne)
        rw [ht, EReal.sub_top, exp_bot]
    intro e
    simp [soft, hz, Ideal.div]

/-- How many of four entries are less than entry `i`. -/
def rank (p : Fin 4 → EReal) (i : Fin 4) : Fin 4 :=
  ⟨(Finset.univ.filter fun j => p j < p i).card, by
    have : (Finset.univ.filter fun j => p j < p i) ⊂ Finset.univ :=
      Finset.ssubset_univ_iff.mpr fun h => by
        have := h ▸ Finset.mem_univ i
        simp at this
    simpa using Finset.card_lt_card this⟩

/-- The entries and their ranks are in the same order. -/
theorem rank_lt (p : Fin 4 → EReal) (i j : Fin 4) : p i < p j ↔ rank p i < rank p j := by
  constructor
  · intro h
    show (Finset.univ.filter fun k => p k < p i).card < (Finset.univ.filter fun k => p k < p j).card
    refine Finset.card_lt_card ((Finset.ssubset_iff_of_subset ?_).mpr ⟨i, by simpa using h, by simp⟩)
    intro k hk
    simp only [Finset.mem_filter, Finset.mem_univ, true_and] at *
    exact hk.trans h
  · intro h
    by_contra hn
    refine absurd h (not_lt.mpr ?_)
    show (Finset.univ.filter fun k => p k < p j).card ≤ (Finset.univ.filter fun k => p k < p i).card
    refine Finset.card_le_card ?_
    intro k hk
    simp only [Finset.mem_filter, Finset.mem_univ, true_and] at *
    exact hk.trans_le (not_lt.mp hn)

/-- What a stable sort of four by decreasing rank puts first and second. -/
theorem sort_ranks : ∀ r : Fin 4 → Fin 4,
    sortedFrom (fun k k' => decide (r k' < r k)) 0 ≠ sortedFrom (fun k k' => decide (r k' < r k)) 1
    ∧ (∀ e, r e ≤ r (sortedFrom (fun k k' => decide (r k' < r k)) 0))
    ∧ (∀ e, e < sortedFrom (fun k k' => decide (r k' < r k)) 0 → r e < r (sortedFrom (fun k k' => decide (r k' < r k)) 0))
    ∧ (∀ e, e ≠ sortedFrom (fun k k' => decide (r k' < r k)) 0 → r e ≤ r (sortedFrom (fun k k' => decide (r k' < r k)) 1))
    ∧ (∀ e, e ≠ sortedFrom (fun k k' => decide (r k' < r k)) 0 → e < sortedFrom (fun k k' => decide (r k' < r k)) 1 →
        r e < r (sortedFrom (fun k k' => decide (r k' < r k)) 1)) := by
  decide +kernel

/-- The order of the experts is the order of their ranks. -/
theorem before_eq (p : Fin 4 → EReal) : before p = fun k k' => decide (rank p k' < rank p k) := by
  funext k k'
  rw [before, Ideal.cmp]
  by_cases h : p k' < p k
  · simp [h, (rank_lt p k' k).mp h]
  · have : ¬ rank p k' < rank p k := fun h' => h ((rank_lt p k' k).mpr h')
    simp [h, this]

/-- The two experts chosen: different, the first the greatest and least in index among its equals, the second so among
the others. -/
theorem chosen (p : Fin 4 → EReal) :
    fst p ≠ snd p ∧ (∀ e, p e ≤ p (fst p)) ∧ (∀ e, e < fst p → p e < p (fst p))
    ∧ (∀ e, e ≠ fst p → p e ≤ p (snd p)) ∧ (∀ e, e ≠ fst p → e < snd p → p e < p (snd p)) := by
  have h := sort_ranks (rank p)
  rw [← before_eq] at h
  have hle : ∀ i j, rank p i ≤ rank p j → p i ≤ p j := fun i j hij =>
    not_lt.mp fun hc => absurd ((rank_lt p j i).mp hc) (not_lt.mpr hij)
  exact ⟨h.1, fun e => hle _ _ (h.2.1 e), fun e he => (rank_lt p _ _).mpr (h.2.2.1 e he),
    fun e he => hle _ _ (h.2.2.2.1 e he), fun e he he' => (rank_lt p _ _).mpr (h.2.2.2.2 e he he')⟩

/-- The least true index of four, as a word, is the least over words that are 4 where the condition fails. -/
theorem arg_bool : ∀ (c : Fin 4 → Bool) (f : Fin 4), c f = true → (∀ e, e < f → c e = false) →
    (Finset.univ.fold IntOp.minsi 0x7fffffff#32 fun e : Fin 4 => if c e = true then BitVec.ofNat 32 e.val else 4#32)
      = BitVec.ofNat 32 f.val := by
  decide +kernel

/-- The word of the least index at which the greatest entry is attained. -/
theorem arg_eq (p : Fin 4 → EReal) (f : Fin 4) (h : ∀ e, p e ≤ p f) (h' : ∀ e, e < f → p e < p f) :
    arg p = BitVec.ofNat 32 f.val := by
  have ht := top_eq p f h
  have := arg_bool (fun e => decide (p e = top p)) f (by simp [ht]) (fun e he => by
    simpa [ht] using (h' e he).ne)
  simpa [arg] using this

/-- The words of two of four indices are equal when the indices are. -/
theorem word_eq (e f : Fin 4) : (BitVec.ofNat 32 e.val = BitVec.ofNat 32 f.val) ↔ e = f := by
  revert e f; decide

/-- The two ways of weighting the experts agree on the weights of a softmax. -/
theorem mix_eq (l o : Fin 4 → EReal) : mixK (soft l) o = mixR (soft l) o := by
  generalize hp : soft l = p
  have hc : (∀ e, p e = ⊥) ∨ ((∀ e, ∃ r : ℝ, p e = r ∧ 0 ≤ r) ∧ ∃ e, 0 < p e) := hp ▸ soft_cases l
  rcases hc with hb | ⟨hr, e₀, he₀⟩
  · have ht : top p = ⊥ := by rw [top_eq p 0 fun t => by rw [hb, hb]]; exact hb 0
    simp [mixK, mixR, wgt, ht, hb, div_bot]
  · obtain ⟨hne, h1, h2, h3, h4⟩ := chosen p
    generalize hfs : fst p = f at *
    generalize hsn : snd p = s at *
    have hf : 0 < p f := he₀.trans_le (h1 e₀)
    obtain ⟨a, ha, ha0⟩ := hr f
    obtain ⟨b, hb, hb0⟩ := hr s
    have hrest : rest p = fun e => if e = f then ⊥ else p e := by
      funext e; rw [rest, arg_eq p f h1 h2]; simp only [word_eq]
    have hs : ∀ e, rest p e ≤ rest p s := fun e => by
      rw [hrest]; by_cases he : e = f
      · simp [he]
      · simpa [he, hne.symm] using h3 e he
    have hs' : ∀ e, e < s → rest p e < rest p s := fun e hes => by
      rw [hrest]; by_cases he : e = f
      · simp [he, hne.symm, hb]
      · simpa [he, hne.symm] using h4 e he hes
    have htr : top (rest p) = p s := by rw [top_eq _ s hs, hrest]; simp [hne.symm]
    have hw : ∀ e, wgt p e = Ideal.div ((if e = f then p f else 0) + (if e = s then p s else 0)) (p f + p s) := fun e => by
      rw [wgt, arg_eq p f h1 h2, arg_eq _ s hs hs', htr, top_eq p f h1]; simp only [word_eq]
    have hD : p f + p s = ((a + b : ℝ) : EReal) := by rw [ha, hb, EReal.coe_add]
    have hD0 : a + b ≠ 0 := by
      have : 0 < a := by rw [ha] at hf; exact_mod_cast hf
      positivity
    have hz : ∀ e, e ≠ f → e ≠ s → wgt p e * o e = 0 := fun e hef hes => by
      rw [hw, if_neg hef, if_neg hes, hD, div_real _ hD0]; simp
    have hK : mixK p o = ∑ e, wgt p e * o e := by rw [Fin.sum_univ_four]; rfl
    rw [hK, Finset.sum_eq_add f s hne (fun e _ he => hz e he.1 he.2) (by simp) (by simp), hw, hw, mixR, hsn, hfs]
    simp [hne, hne.symm]

/-- One layer of the kernel is one layer of the reference when the weights the scores read are real. -/
theorem layer_eq {P : Weights} (h : P.Tame) (X : Fin 2048 → Fin 64 → EReal) : P.layerK X = P.layerR X := by
  have hl : ∀ r k, IsReal (ln P.g1 P.b1 (X r) k) := fun r k => isReal_ln h.g1 h.b1 (X r) k
  have hq : ∀ r d, IsReal (P.q (X r) d) := fun r d =>
    (isReal_sum _ _ fun k _ => (hl r k).mul (h.qk _ (by show d.val < 128; omega) k)).add (h.bqk _ (by show d.val < 128; omega))
  have hk : ∀ r d, IsReal (P.k (X r) d) := fun r d =>
    (isReal_sum _ _ fun k _ => (hl r k).mul (h.qk _ (by show 64 + d.val < 128; omega) k)).add
      (h.bqk _ (by show 64 + d.val < 128; omega))
  have hs : ∀ r t, IsReal (P.scores X r t) := fun r t =>
    (isReal_sum _ _ fun d _ => (hq r d).mul (hk t d)).div (by norm_num)
  have hm : P.mid attK X = P.mid attR X := by
    funext r j
    have : attK (P.scores X r) (fun t => P.v (X t)) = attR (P.scores X r) fun t => P.v (X t) :=
      funext fun d => att_eq (hs r) _ d
    rw [Weights.mid, Weights.mid, this]
  funext r j
  rw [Weights.layerK, Weights.layerR, hm, Weights.ffn, Weights.ffn, mix_eq]

end Cert.Spec

end
-- ==== Proof.Tops.lean ====
module

public import proofs.«01_k».proof.Proof.Math
public import Idealize.ShloMosaic.Lib.Pointwise

@[expose] public section

noncomputable section

/-! The greatest entries of rows, at any sizes. -/

namespace Cert.Spec

open Idealize.ShloMosaic

/-- The word of minus infinity. -/
theorem bitsBot : Ideal.ofBits .f32 0xFF800000#32 = (⊥ : EReal) := by
  simp [Ideal.ofBits, Ideal.ieee]

/-- The greatest entry of the host along the last of three axes. -/
theorem hostTop3 {n0 n1 n2 : ℕ} (z : FVec Ideal ⟨3, ![n0, n1, n2]⟩ .f32) {u : Shape}
    (h : (⟨3, ![n0, n1, n2]⟩ : Shape).ReducesTo [2] ⟨2, ![n0, n1]⟩) (hu : 0 < u.numel) (i : Fin n0) (j : Fin n1) :
    Host.reduce FloatOps.maximumf z (constant u .f32 0xFF800000#32) h hu (ix2 i j) = top fun k => z (ix3 i j k) := by
  rw [Host.reduce_eq_fold, h.fold_fiber_r3_a2]
  show Finset.univ.fold max (Ideal.ofBits .f32 0xFF800000#32) _ = _
  rw [bitsBot]; rfl

/-- The greatest entry of the host along the last of two axes. -/
theorem hostTop2 {n0 n1 : ℕ} (z : FVec Ideal ⟨2, ![n0, n1]⟩ .f32) {u : Shape}
    (h : (⟨2, ![n0, n1]⟩ : Shape).ReducesTo [1] ⟨1, ![n0]⟩) (hu : 0 < u.numel) (i : Fin n0) :
    Host.reduce FloatOps.maximumf z (constant u .f32 0xFF800000#32) h hu (ix1 i) = top fun k => z (ix2 i k) := by
  rw [Host.reduce_eq_fold, h.fold_fiber_r2_a1]
  show Finset.univ.fold max (Ideal.ofBits .f32 0xFF800000#32) _ = _
  rw [bitsBot]; rfl

/-- The greatest entry in the kernel along the last of two axes. -/
theorem top2 {n0 n1 : ℕ} (z : FVec Ideal ⟨2, ![n0, n1]⟩ .f32)
    (h : (⟨2, ![n0, n1]⟩ : Shape).Reduces [1] ⟨1, ![n0]⟩) (hφ : FKind.Formats .f32)
    (hacc : 0xFF800000#32 = FKind.maximumf.neutral .f32 hφ) (i : Fin n0) :
    multiReduction .maximumf [1] ⟨1, ![n0]⟩ z 0xFF800000#32 h hφ hacc (ix1 i) = top fun k => z (ix2 i k) := by
  rw [multiReduction_maximumf_eq_fold, h.fold_fiber_r2_a1]
  show Finset.univ.fold max (Ideal.ofBits .f32 0xFF800000#32) _ = _
  rw [bitsBot]; rfl

/-- The elementwise greater of two arrays, at an index. -/
theorem max_at {s : Shape} (a b : FVec Ideal s .f32) (i : s.Idx) : maximumf a b i = max (a i) (b i) := rfl

end Cert.Spec

end
-- ==== Proof.Kern.lean ====
module

public import proofs.«01_k».proof.Proof.Gen.KernelIdeal.Value
public import proofs.«01_k».proof.Proof.Tops
public import Idealize.ShloMosaic.Lib.Claim
public import Idealize.ShloMosaic.Lib.Pointwise
public import Idealize.ShloMosaic.Lib.WordCmp
public import Idealize.ShloMosaic.Lib.Pipeline.ValueKit

@[expose] public section

set_option maxRecDepth 16384

noncomputable section

/-! The kernel's layer in stages, each read at an index. -/

namespace Cert.KernStages

open Idealize.ShloMosaic Idealize.ShloMosaic.TcCoe Idealize.SL.Sem
open Cert.KernelIdeal Cert.KernelIdeal.Gen

/-- An array of extended reals of shape `s`. -/
abbrev V (s : Shape) := FVec Ideal s .f32

/-- A number of one word. -/
abbrev num (b : BitVec 32) : Ideal .f32 := Scalar.ofBits (F := Ideal) (φ := .f32) b

/-- The eight slices of eight columns, added. -/
def kFold (z : V S2048x64) : V S2048x8 :=
  addf (addf (addf (addf (addf (addf (addf (extractStridedSlice S2048x8 ![0, 0] z slices_S2048x64_o0_0_S2048x8)
    (extractStridedSlice S2048x8 ![0, 8] z slices_S2048x64_o0_8_S2048x8))
    (extractStridedSlice S2048x8 ![0, 16] z slices_S2048x64_o0_16_S2048x8))
    (extractStridedSlice S2048x8 ![0, 24] z slices_S2048x64_o0_24_S2048x8))
    (extractStridedSlice S2048x8 ![0, 32] z slices_S2048x64_o0_32_S2048x8))
    (extractStridedSlice S2048x8 ![0, 40] z slices_S2048x64_o0_40_S2048x8))
    (extractStridedSlice S2048x8 ![0, 48] z slices_S2048x64_o0_48_S2048x8))
    (extractStridedSlice S2048x8 ![0, 56] z slices_S2048x64_o0_56_S2048x8)

/-- Eight columns halved to four. -/
def kFour (z : V S2048x8) : V S2048x4 :=
  addf (extractStridedSlice S2048x4 ![0, 0] z slices_S2048x8_o0_0_S2048x4)
    (extractStridedSlice S2048x4 ![0, 4] z slices_S2048x8_o0_4_S2048x4)

/-- Four columns halved to two. -/
def kTwo (z : V S2048x4) : V S2048x2 :=
  addf (extractStridedSlice S2048x2 ![0, 0] z slices_S2048x4_o0_0_S2048x2)
    (extractStridedSlice S2048x2 ![0, 2] z slices_S2048x4_o0_2_S2048x2)

/-- Two columns halved to one. -/
def kOne (z : V S2048x2) : V S2048x1 :=
  addf (extractStridedSlice S2048x1 ![0, 0] z slices_S2048x2_o0_0_S2048x1)
    (extractStridedSlice S2048x1 ![0, 1] z slices_S2048x2_o0_1_S2048x1)

/-- The mean of each row. -/
def kMean (z : V S2048x64) : V S2048x1 :=
  mulf (kOne (kTwo (kFour (kFold z)))) (broadcast S2048x1 (num 0x3C800000#32))

/-- Each row less its mean. -/
def kCen (x : V S2048x64) : V S2048x64 := subf x (broadcastTo S2048x64 (kMean x) broadcasts_S2048x1_S2048x64)

/-- The normalization of each row. -/
def kLN (x : V S2048x64) (g b : V S1x64) : V S2048x64 :=
  addf (mulf (divf (kCen x) (broadcastTo S2048x64
      (sqrt (addf (kMean (mulf (kCen x) (kCen x))) (broadcast S2048x1 (num 0x3727C5AC#32)))) broadcasts_S2048x1_S2048x64))
    (broadcastTo S2048x64 (shapeCast S1x64 (shapeCast S64 g shapeCasts_S1x64_S64) shapeCasts_S64_S1x64) broadcasts_S1x64_S2048x64))
    (broadcastTo S2048x64 (shapeCast S1x64 (shapeCast S64 b shapeCasts_S1x64_S64) shapeCasts_S64_S1x64) broadcasts_S1x64_S2048x64)

/-- A linear map with a bias on each row. -/
def kLin (x : V S2048x64) (W : V S1x64x64) (b : V S1x64) : V S2048x64 :=
  addf (matmul dot_S2048x64_S64x64_S2048x64_1_1_0_0_n_n none x (shapeCast S64x64 W shapeCasts_S1x64x64_S64x64)
      (constant S2048x64 .f32 0x00000000#32))
    (broadcastTo S2048x64 (shapeCast S1x64 (shapeCast S64 b shapeCasts_S1x64_S64) shapeCasts_S64_S1x64) broadcasts_S1x64_S2048x64)

/-- The scores of 512 queries against every key. -/
def kScores (q : V S512x64) (k : V S2048x64) : V S512x2048 :=
  mulf (matmul dot_S512x64_S2048x64_S512x2048_1_1_0_0_n_n none q k (constant S512x2048 .f32 0x00000000#32))
    (broadcast S512x2048 (num 0x3E000000#32))

/-- The greatest score of each query. -/
def kTop (s : V S512x2048) : V S512 := multiReduction .maximumf [1] S512 s 0xFF800000#32 reduces_S512x2048_S512 (.inl rfl) rfl

/-- The exponentials of the scores less the greatest of their row. -/
def kExp (s : V S512x2048) : V S512x2048 :=
  exp (subf s (broadcastTo S512x2048 (shapeCast S512x1 (kTop s) shapeCasts_S512_S512x1) broadcasts_S512x1_S512x2048))

/-- The product of a block of 256 weights and the values of their keys. -/
def kDot (p : V S512x256) (v : V S256x64) : V S512x64 :=
  matmul dot_S512x256_S256x64_S512x64_1_0_0_1_n_n none p v (constant S512x64 .f32 0x00000000#32)

/-- The products of the eight blocks of keys. -/
def kPart (p : V S512x2048) (v : V S2048x64) : Fin 8 → V S512x64
  | 0 => kDot (extractStridedSlice S512x256 ![0, 0] p slices_S512x2048_o0_0_S512x256)
      (extractStridedSlice S256x64 ![0, 0] v slices_S2048x64_o0_0_S256x64)
  | 1 => kDot (extractStridedSlice S512x256 ![0, 256] p slices_S512x2048_o0_256_S512x256)
      (extractStridedSlice S256x64 ![256, 0] v slices_S2048x64_o256_0_S256x64)
  | 2 => kDot (extractStridedSlice S512x256 ![0, 512] p slices_S512x2048_o0_512_S512x256)
      (extractStridedSlice S256x64 ![512, 0] v slices_S2048x64_o512_0_S256x64)
  | 3 => kDot (extractStridedSlice S512x256 ![0, 768] p slices_S512x2048_o0_768_S512x256)
      (extractStridedSlice S256x64 ![768, 0] v slices_S2048x64_o768_0_S256x64)
  | 4 => kDot (extractStridedSlice S512x256 ![0, 1024] p slices_S512x2048_o0_1024_S512x256)
      (extractStridedSlice S256x64 ![1024, 0] v slices_S2048x64_o1024_0_S256x64)
  | 5 => kDot (extractStridedSlice S512x256 ![0, 1280] p slices_S512x2048_o0_1280_S512x256)
      (extractStridedSlice S256x64 ![1280, 0] v slices_S2048x64_o1280_0_S256x64)
  | 6 => kDot (extractStridedSlice S512x256 ![0, 1536] p slices_S512x2048_o0_1536_S512x256)
      (extractStridedSlice S256x64 ![1536, 0] v slices_S2048x64_o1536_0_S256x64)
  | 7 => kDot (extractStridedSlice S512x256 ![0, 1792] p slices_S512x2048_o0_1792_S512x256)
      (extractStridedSlice S256x64 ![1792, 0] v slices_S2048x64_o1792_0_S256x64)

/-- What the accumulator holds: stored through the shape it has. -/
abbrev kKeep (a : V S512x64) : V S512x64 := shapeCast S512x64 a shapeCasts_S512x64_S512x64

/-- The accumulator after the last block of keys. -/
def kAcc (p : V S512x2048) (v : V S2048x64) : V S512x64 :=
  kKeep (addf (kKeep (addf (kKeep (addf (kKeep (addf (kKeep (addf (kKeep (addf (kKeep (addf (kKeep (kPart p v 0)) (kPart p v 1)))
    (kPart p v 2))) (kPart p v 3))) (kPart p v 4))) (kPart p v 5))) (kPart p v 6))) (kPart p v 7))

/-- The sum of each query's weights. -/
def kDen (p : V S512x2048) : V S512x1 :=
  shapeCast S512x1 (multiReduction .add [1] S512 p 0x00000000#32 reduces_S512x2048_S512 (.inl rfl) rfl) shapeCasts_S512_S512x1

/-- Attention of 512 queries. -/
def kAtt (q : V S512x64) (k v : V S2048x64) : V S512x64 :=
  divf (kAcc (kExp (kScores q k)) v) (broadcastTo S512x64 (kDen (kExp (kScores q k))) broadcasts_S512x1_S512x64)

/-- The four chunks of queries. -/
def kChunk (q : V S2048x64) : Fin 4 → V S512x64
  | 0 => extractStridedSlice S512x64 ![0, 0] q slices_S2048x64_o0_0_S512x64
  | 1 => extractStridedSlice S512x64 ![512, 0] q slices_S2048x64_o512_0_S512x64
  | 2 => extractStridedSlice S512x64 ![1024, 0] q slices_S2048x64_o1024_0_S512x64
  | 3 => extractStridedSlice S512x64 ![1536, 0] q slices_S2048x64_o1536_0_S512x64

/-- Four chunks put together. -/
def kCat (a : Fin 4 → V S512x64) : V S2048x64 :=
  concatenate S2048x64 0 [⟨S512x64, a 0⟩, ⟨S512x64, a 1⟩, ⟨S512x64, a 2⟩, ⟨S512x64, a 3⟩]
    concatenates_S512x64_S512x64_S512x64_S512x64_S2048x64_d0

/-- The rows after attention. -/
def kMid (x q k v : V S2048x64) (O : V S1x64x64) (o : V S1x64) : V S2048x64 :=
  addf x (kLin (kCat fun c => kAtt (kChunk q c) k v) O o)

/-- The gate's logits of each row. -/
def kLogits (h : V S2048x64) (G : V S1x4x64) : V S2048x4 :=
  matmul dot_S2048x64_S4x64_S2048x4_1_1_0_0_n_n none h (shapeCast S4x64 G shapeCasts_S1x4x64_S4x64)
    (constant S2048x4 .f32 0x00000000#32)

/-- The greatest entry of each row of four. -/
def kBig (p : V S2048x4) : V S2048 := multiReduction .maximumf [1] S2048 p 0xFF800000#32 reduces_S2048x4_S2048 (.inl rfl) rfl

/-- The same in a column. -/
def kMax (p : V S2048x4) : V S2048x1 := shapeCast S2048x1 (kBig p) shapeCasts_S2048_S2048x1

/-- The exponentials of the logits less the greatest of their row. -/
def kGateExp (l : V S2048x4) : V S2048x4 :=
  exp (subf l (broadcastTo S2048x4 (kMax l) broadcasts_S2048x1_S2048x4))

/-- The softmax of each row of logits. -/
def kProbs (l : V S2048x4) : V S2048x4 :=
  divf (kGateExp l) (broadcastTo S2048x4
    (addf (addf (extractStridedSlice S2048x1 ![0, 0] (kGateExp l) slices_S2048x4_o0_0_S2048x1)
        (extractStridedSlice S2048x1 ![0, 2] (kGateExp l) slices_S2048x4_o0_2_S2048x1))
      (addf (extractStridedSlice S2048x1 ![0, 1] (kGateExp l) slices_S2048x4_o0_1_S2048x1)
        (extractStridedSlice S2048x1 ![0, 3] (kGateExp l) slices_S2048x4_o0_3_S2048x1))) broadcasts_S2048x1_S2048x4)

/-- The column of each place. -/
abbrev kCols : IVec S2048x4 32 := iota .tc S2048x4 32 [1] iota_S2048x4_d1_w32

/-- The least column at which a row has its greatest entry. -/
def kArg (p : V S2048x4) : IVec S2048x1 32 :=
  shapeCast S2048x1 (multiReductionI .minsi [1] S2048
    (select (cmpf .oeq p (broadcastTo S2048x4 (kMax p) broadcasts_S2048x1_S2048x4)) kCols (broadcast S2048x4 4#32))
    2147483647#32 reduces_S2048x4_S2048 rfl) shapeCasts_S2048_S2048x1

/-- Where that column is. -/
def kHot (p : V S2048x4) : IVec S2048x4 1 :=
  cmpi .eq kCols (broadcastTo S2048x4 (kArg p) broadcasts_S2048x1_S2048x4)

/-- The weights with the greatest one left out. -/
def kRest (p : V S2048x4) : V S2048x4 := select (kHot p) (broadcast S2048x4 (num 0xFF800000#32)) p

/-- The greatest entry where its column is, zero elsewhere. -/
def kPick (p : V S2048x4) : V S2048x4 :=
  select (kHot p) (broadcastTo S2048x4 (shapeCast S2048x1 (kMax p) shapeCasts_S2048x1_S2048x1) broadcasts_S2048x1_S2048x4)
    (broadcast S2048x4 (num 0x00000000#32))

/-- The weight of each expert. -/
def kWeights (p : V S2048x4) : V S2048x4 :=
  divf (addf (kPick p) (kPick (kRest p))) (broadcastTo S2048x4 (addf (kMax p) (kMax (kRest p))) broadcasts_S2048x1_S2048x4)

/-- An expert's first layer. -/
def kUp (h : V S2048x64) (U : V S1x1x256x64) : V S2048x256 :=
  matmul dot_S2048x64_S256x64_S2048x256_1_1_0_0_n_n none h (shapeCast S256x64 U shapeCasts_S1x1x256x64_S256x64)
    (constant S2048x256 .f32 0x00000000#32)

/-- An expert's output. -/
def kExpert (h : V S2048x64) (U : V S1x1x256x64) (D : V S1x1x64x128) : V S2048x64 :=
  matmul dot_S2048x128_S64x128_S2048x64_1_1_0_0_n_n none
    (mulf (mulf (extractStridedSlice S2048x128 ![0, 0] (kUp h U) slices_S2048x256_o0_0_S2048x128)
        (logistic (extractStridedSlice S2048x128 ![0, 0] (kUp h U) slices_S2048x256_o0_0_S2048x128)))
      (extractStridedSlice S2048x128 ![0, 128] (kUp h U) slices_S2048x256_o0_128_S2048x128))
    (shapeCast S64x128 D shapeCasts_S1x1x64x128_S64x128) (constant S2048x64 .f32 0x00000000#32)

/-- The column of one expert's weights. -/
def kCol (w : V S2048x4) : Fin 4 → V S2048x1
  | 0 => extractStridedSlice S2048x1 ![0, 0] w slices_S2048x4_o0_0_S2048x1
  | 1 => extractStridedSlice S2048x1 ![0, 1] w slices_S2048x4_o0_1_S2048x1
  | 2 => extractStridedSlice S2048x1 ![0, 2] w slices_S2048x4_o0_2_S2048x1
  | 3 => extractStridedSlice S2048x1 ![0, 3] w slices_S2048x4_o0_3_S2048x1

/-- One expert's output at its weight. -/
def kTerm (h : V S2048x64) (w : V S2048x4) (U : Fin 4 → V S1x1x256x64) (D : Fin 4 → V S1x1x64x128) (e : Fin 4) : V S2048x64 :=
  mulf (broadcastTo S2048x64 (kCol w e) broadcasts_S2048x1_S2048x64) (kExpert h (U e) (D e))

/-- The rows after the experts, from the normalized rows `h` and the weights `w`. -/
def kMix (x h : V S2048x64) (w : V S2048x4) (U : Fin 4 → V S1x1x256x64) (D : Fin 4 → V S1x1x64x128) : V S2048x64 :=
  addf x (addf (addf (addf (addf (broadcast S2048x64 (num 0x00000000#32)) (kTerm h w U D 0)) (kTerm h w U D 1))
    (kTerm h w U D 2)) (kTerm h w U D 3))

/-- The last linear map without its bias. -/
def kHead (x : V S2048x64) (W : V S100x64) : V S2048x100 :=
  matmul dot_S2048x64_S100x64_S2048x100_1_1_0_0_n_n none x W (constant S2048x100 .f32 0x00000000#32)

/-! ### The stages at an index -/

variable (x : V S2048x64) (r : Fin 2048)

/-- Row `r`. -/
abbrev row (x : V S2048x64) (r : Fin 2048) : Fin 64 → EReal := fun k => x (ix2 r k)

/-- The word of a sixty-fourth. -/
theorem bits64th : Ideal.ofBits .f32 0x3C800000#32 = ((1 / 64 : ℝ) : EReal) := by
  simp [Ideal.ofBits, Ideal.ieee, -EReal.coe_mul]; norm_num

/-- The word of an eighth. -/
theorem bits8th : Ideal.ofBits .f32 0x3E000000#32 = ((1 / 8 : ℝ) : EReal) := by
  simp [Ideal.ofBits, Ideal.ieee, -EReal.coe_mul]; norm_num

/-- A sum over `m` blocks of `n`. -/
theorem sum_blocks {m n : ℕ} (f : Fin (m * n) → EReal) (h : ∀ (i : Fin m) (c : Fin n), n * i.val + c.val < m * n) :
    ∑ i : Fin m, ∑ c : Fin n, f ⟨n * i.val + c.val, h i c⟩ = ∑ k, f k := by
  rw [← Fintype.sum_prod_type', ← Equiv.sum_comp finProdFinEquiv f]
  refine Finset.sum_congr rfl fun p _ => congrArg f (Fin.ext ?_)
  show n * p.1.val + p.2.val = p.2.val + n * p.1.val
  omega

/-- The eight slices, added. -/
theorem kFold_at (c : Fin 8) : kFold x (ix2 r c) = ∑ i : Fin 8, x (ix2 r ⟨8 * i.val + c.val, by omega⟩) := by
  rw [Fin.sum_univ_eight]
  pointwise [kFold]

/-- Eight numbers added in pairs of pairs. -/
theorem pairs_eq (a b c d e f g h : EReal) :
    a + e + (c + g) + (b + f + (d + h)) = a + b + c + d + e + f + g + h := by
  ac_rfl

/-- The eight columns, added. -/
theorem kOne_at (z : V S2048x8) : kOne (kTwo (kFour z)) (ix2 r 0) = ∑ c : Fin 8, z (ix2 r c) := by
  rw [Fin.sum_univ_eight]
  pointwise [kOne, kTwo, kFour]
  exact pairs_eq _ _ _ _ _ _ _ _

/-- The mean of a row. -/
theorem kMean_at : kMean x (ix2 r 0) = Spec.mean (row x r) := by
  have h : kOne (kTwo (kFour (kFold x))) (ix2 r 0) = ∑ k, x (ix2 r k) := by
    rw [kOne_at]
    simp only [kFold_at]
    rw [Finset.sum_comm]
    exact sum_blocks (m := 8) (n := 8) (fun k => x (ix2 r k)) _
  show kOne (kTwo (kFour (kFold x))) (ix2 r 0) * Ideal.ofBits .f32 0x3C800000#32 = _
  rw [h, bits64th, Spec.mean, Ideal.div_coe (by norm_num)]

/-- A row less its mean. -/
theorem kCen_at (j : Fin 64) : kCen x (ix2 r j) = Spec.cen (row x r) j := by
  pointwise [kCen, kMean_at]
  rfl

/-- The normalized rows. -/
theorem kLN_at (g b : V S1x64) (j : Fin 64) :
    kLN x g b (ix2 r j) = Spec.ln (fun k => g (ix2 0 k)) (fun k => b (ix2 0 k)) (row x r) j := by
  have h : row (mulf (kCen x) (kCen x)) r = fun k => Spec.cen (row x r) k * Spec.cen (row x r) k := funext fun k => by
    show kCen x (ix2 r k) * kCen x (ix2 r k) = _
    rw [kCen_at]
  pointwise [kLN, kMean_at, kCen_at]
  rw [h]; rfl

/-- A linear map. -/
theorem kLin_at (W : V S1x64x64) (b : V S1x64) (j : Fin 64) :
    kLin x W b (ix2 r j) = (∑ k, row x r k * W (ix3 0 j k)) + b (ix2 0 j) := by
  pointwise [kLin]

/-- The scores. -/
theorem kScores_at (q : V S512x64) (k : V S2048x64) (i : Fin 512) (t : Fin 2048) :
    kScores q k (ix2 i t) = Spec.score (fun d => q (ix2 i d)) (row k t) := by
  pointwise [kScores]
  rw [bits8th, Spec.score, Ideal.div_coe (by norm_num)]

/-- The greatest scores. -/
theorem kTop_at (s : V S512x2048) (i : Fin 512) : kTop s (ix1 i) = Spec.top fun t => s (ix2 i t) := by
  exact Spec.top2 s _ _ _ i

/-- The exponentials. -/
theorem kExp_at (s : V S512x2048) (i : Fin 512) (t : Fin 2048) :
    kExp s (ix2 i t) = Spec.expo (fun u => s (ix2 i u)) t := by
  pointwise [kExp, kTop_at]
  rfl

/-- The sums of the weights. -/
theorem kDen_at (p : V S512x2048) (i : Fin 512) : kDen p (ix2 i 0) = ∑ t, p (ix2 i t) := by
  pointwise [kDen]

/-- A block's product. -/
theorem kDot_at (p : V S512x256) (v : V S256x64) (i : Fin 512) (d : Fin 64) :
    kDot p v (ix2 i d) = ∑ k, p (ix2 i k) * v (ix2 k d) := by
  pointwise [kDot]

/-- The blocks' products. -/
theorem kPart_at (p : V S512x2048) (v : V S2048x64) (i : Fin 512) (d : Fin 64) (c : Fin 8) :
    kPart p v c (ix2 i d) = ∑ k : Fin 256, p (ix2 i ⟨256 * c.val + k.val, by omega⟩) * v (ix2 ⟨256 * c.val + k.val, by omega⟩ d) := by
  match c with
  | 0 | 1 | 2 | 3 | 4 | 5 | 6 | 7 => pointwise [kPart, kDot_at]

/-- The accumulator at the end: the product of the weights and the values. -/
theorem kAcc_at (p : V S512x2048) (v : V S2048x64) (i : Fin 512) (d : Fin 64) :
    kAcc p v (ix2 i d) = ∑ t : Fin 2048, p (ix2 i t) * v (ix2 t d) := by
  rw [← sum_blocks (m := 8) (n := 256) (fun t => p (ix2 i t) * v (ix2 t d)) (fun i c => by omega), Fin.sum_univ_eight]
  pointwise [kAcc, kPart_at]

/-- Attention of 512 queries. -/
theorem kAtt_at (q : V S512x64) (k v : V S2048x64) (i : Fin 512) (d : Fin 64) :
    kAtt q k v (ix2 i d) = Spec.attK (fun t => Spec.score (fun d => q (ix2 i d)) (row k t)) (fun t => row v t) d := by
  pointwise [kAtt, kAcc_at, kDen_at, kExp_at, kScores_at]
  rfl

/-- A chunk of queries. -/
theorem kChunk_at (q : V S2048x64) (c : Fin 4) (i : Fin 512) (d : Fin 64) :
    kChunk q c (ix2 i d) = q (ix2 ⟨512 * c.val + i.val, by omega⟩ d) := by
  match c with
  | 0 | 1 | 2 | 3 => pointwise [kChunk]

/-- The chunks put together. -/
theorem kCat_at (a : Fin 4 → V S512x64) (c : Fin 4) (i : Fin 512) (d : Fin 64) :
    kCat a (ix2 ⟨512 * c.val + i.val, by omega⟩ d) = a c (ix2 i d) := by
  match c with
  | 0 | 1 => pointwise [kCat]
  | 2 =>
    pointwise [kCat]
    rw [dif_neg (by omega), dif_neg (by omega), dif_pos (by omega)]
    exact congrArg (fun t => a 2 (ix2 t d)) (Fin.ext (by show 1024 + i.val - 512 - 512 = i.val; omega))
  | 3 =>
    pointwise [kCat]
    rw [dif_neg (by omega), dif_neg (by omega), dif_neg (by omega)]
    exact congrArg (fun t => a 3 (ix2 t d)) (Fin.ext (by show 1536 + i.val - 512 - 512 - 512 = i.val; omega))

/-- Attention of every row. -/
theorem kCat_att (q k v : V S2048x64) (d : Fin 64) :
    kCat (fun c => kAtt (kChunk q c) k v) (ix2 r d)
      = Spec.attK (fun t => Spec.score (row q r) (row k t)) (fun t => row v t) d := by
  have hr : r = ⟨512 * (⟨r.val / 512, by omega⟩ : Fin 4).val + (⟨r.val % 512, by omega⟩ : Fin 512).val, by
      show 512 * (r.val / 512) + r.val % 512 < 2048; omega⟩ := Fin.ext (by
    show r.val = 512 * (r.val / 512) + r.val % 512; omega)
  rw [hr, kCat_at, kAtt_at]
  simp only [kChunk_at]

/-- The logits. -/
theorem kLogits_at (h : V S2048x64) (G : V S1x4x64) (e : Fin 4) :
    kLogits h G (ix2 r e) = ∑ k, h (ix2 r k) * G (ix3 0 e k) := by
  pointwise [kLogits]

/-- The greatest of four. -/
theorem kMax_at (p : V S2048x4) : kMax p (ix2 r 0) = Spec.top fun e => p (ix2 r e) := by
  have h : kBig p (ix1 r) = Spec.top fun e => p (ix2 r e) := Spec.top2 p _ _ _ r
  pointwise [kMax, h]

/-- Their exponentials. -/
theorem kGateExp_at (l : V S2048x4) (e : Fin 4) : kGateExp l (ix2 r e) = Spec.expo (fun u => l (ix2 r u)) e := by
  pointwise [kGateExp, kMax_at]
  rfl

/-- Their softmax. -/
theorem kProbs_at (l : V S2048x4) (e : Fin 4) : kProbs l (ix2 r e) = Spec.soft (fun u => l (ix2 r u)) e := by
  pointwise [kProbs, kGateExp_at]
  rw [Spec.soft, Fin.sum_univ_four]
  exact congrArg _ ((add_add_add_comm _ _ _ _).trans (add_assoc _ _ _).symm)

/-- The least column of the greatest entry. -/
theorem kArg_at (p : V S2048x4) : kArg p (ix2 r 0) = Spec.arg fun e => p (ix2 r e) := by
  pointwise [kArg, kMax_at]
  rfl

/-- Where it is. -/
theorem kHot_at (p : V S2048x4) (e : Fin 4) :
    kHot p (ix2 r e) = if BitVec.ofNat 32 e.val = Spec.arg (fun e => p (ix2 r e)) then 1#1 else 0#1 := by
  pointwise [kHot, kArg_at]
  show BitVec.ofBool (BitVec.ofNat 32 e.val == Spec.arg (fun e => p (ix2 r e))) = _
  by_cases h : BitVec.ofNat 32 e.val = Spec.arg (fun e => p (ix2 r e))
  · rw [if_pos h, beq_iff_eq.2 h]; rfl
  · rw [if_neg h, beq_eq_false_iff_ne.2 h]; rfl

/-- The weights with the greatest one left out. -/
theorem kRest_at (p : V S2048x4) (e : Fin 4) : kRest p (ix2 r e) = Spec.rest (fun e => p (ix2 r e)) e := by
  pointwise [kRest, kHot_at]
  rw [Spec.bitsBot, Spec.rest]
  by_cases h : BitVec.ofNat 32 e.val = Spec.arg (fun e => p (ix2 r e)) <;> simp [h, Scalar.select]

/-- The greatest entry where its column is. -/
theorem kPick_at (p : V S2048x4) (e : Fin 4) :
    kPick p (ix2 r e) = if BitVec.ofNat 32 e.val = Spec.arg (fun e => p (ix2 r e)) then Spec.top (fun e => p (ix2 r e)) else 0 := by
  pointwise [kPick, kHot_at, kMax_at]
  by_cases h : BitVec.ofNat 32 e.val = Spec.arg (fun e => p (ix2 r e)) <;> simp [h, Scalar.select]

/-- The weights of the experts. -/
theorem kWeights_at (p : V S2048x4) (e : Fin 4) : kWeights p (ix2 r e) = Spec.wgt (fun e => p (ix2 r e)) e := by
  pointwise [kWeights, kPick_at, kMax_at, kRest_at]
  rfl

/-- An expert's first layer. -/
theorem kUp_at (h : V S2048x64) (U : V S1x1x256x64) (f : Fin 256) :
    kUp h U (ix2 r f) = ∑ k, h (ix2 r k) * U (ix4 0 0 f k) := by
  pointwise [kUp]

/-- An expert's output. -/
theorem kExpert_at (h : V S2048x64) (U : V S1x1x256x64) (D : V S1x1x64x128) (j : Fin 64) :
    kExpert h U D (ix2 r j) = Spec.expert (fun f k => U (ix4 0 0 f k)) (fun j f => D (ix4 0 0 j f)) (row h r) j := by
  pointwise [kExpert, kUp_at]
  rfl

/-- One expert's output at its weight. -/
theorem kTerm_at (h : V S2048x64) (w : V S2048x4) (U : Fin 4 → V S1x1x256x64) (D : Fin 4 → V S1x1x64x128) (e : Fin 4) (j : Fin 64) :
    kTerm h w U D e (ix2 r j)
      = w (ix2 r e) * Spec.expert (fun f k => U e (ix4 0 0 f k)) (fun j f => D e (ix4 0 0 j f)) (row h r) j := by
  have hc : kCol w e (ix2 r 0) = w (ix2 r e) := by
    match e with
    | 0 | 1 | 2 | 3 => pointwise [kCol]
  pointwise [kTerm, hc, kExpert_at]

/-- The rows after the experts. -/
theorem kMix_at (h : V S2048x64) (w : V S2048x4) (U : Fin 4 → V S1x1x256x64) (D : Fin 4 → V S1x1x64x128) (j : Fin 64) :
    kMix x h w U D (ix2 r j) = x (ix2 r j) + (w (ix2 r 0) * Spec.expert (fun f k => U 0 (ix4 0 0 f k)) (fun j f => D 0 (ix4 0 0 j f)) (row h r) j
      + w (ix2 r 1) * Spec.expert (fun f k => U 1 (ix4 0 0 f k)) (fun j f => D 1 (ix4 0 0 j f)) (row h r) j
      + w (ix2 r 2) * Spec.expert (fun f k => U 2 (ix4 0 0 f k)) (fun j f => D 2 (ix4 0 0 j f)) (row h r) j
      + w (ix2 r 3) * Spec.expert (fun f k => U 3 (ix4 0 0 f k)) (fun j f => D 3 (ix4 0 0 j f)) (row h r) j) := by
  pointwise [kMix, kTerm_at]

/-- The last linear map. -/
theorem kHead_at (W : V S100x64) (o : Fin 100) : kHead x W (ix2 r o) = ∑ k, x (ix2 r k) * W (ix2 o k) := by
  pointwise [kHead]

end Cert.KernStages

end
-- ==== Proof.Pays.lean ====
module

public import proofs.«01_k».proof.Proof.Kern

@[expose] public section

set_option maxRecDepth 16384

noncomputable section

/-! The kernel's computed values, each as a stage of the layer. -/

namespace Cert.KernStages

open Idealize.ShloMosaic Idealize.ShloMosaic.TcCoe Idealize.SL.Sem
open Cert.KernelIdeal Cert.KernelIdeal.Gen

variable (X : V S1x2048x64) (x q k v h : V S2048x64) (g b c : V S1x64) (W O : V S1x64x64) (G : V S1x4x64)
  (U : Fin 4 → V S1x1x256x64) (D : Fin 4 → V S1x1x64x128) (H : V S100x64)

/-! ### The first layer -/

/-- The centred rows. -/
theorem pay5_eq : k0_pay5 (F := Ideal) X = kCen (k0_pay2 X) := by
  simp only [k0_pay5, kCen, kMean, kOne, kTwo, kFour, kFold, num]

/-- Their squares, folded to eight columns. -/
theorem pay6_eq : k0_pay6 (F := Ideal) X = kFold (mulf (kCen (k0_pay2 X)) (kCen (k0_pay2 X))) := by
  simp only [k0_pay6, pay5_eq, kFold]

/-- The rows normalized before attention. -/
theorem pay8_eq : k0_pay8 (F := Ideal) (k0_pay3 g) (k0_pay4 b) (k0_pay5 X) (k0_pay6 X) (k0_pay7 X)
    = kLN (k0_pay2 X) g b := by
  simp only [k0_pay8, k0_pay7, pay5_eq, pay6_eq, kLN, k0_pay3, k0_pay4, kMean, kOne, kTwo, kFour, num]

/-- The queries. -/
theorem pay9_eq : k0_pay9 (F := Ideal) (k0_pay3 g) (k0_pay4 b) (k0_pay5 X) (k0_pay6 X) (k0_pay7 X) W c
    = kLin (kLN (k0_pay2 X) g b) W c := by
  simp only [k0_pay9, pay8_eq, kLin]

/-- The keys. -/
theorem pay10_eq : k0_pay10 (F := Ideal) (k0_pay3 g) (k0_pay4 b) (k0_pay5 X) (k0_pay6 X) (k0_pay7 X) W c
    = kLin (kLN (k0_pay2 X) g b) W c := by
  simp only [k0_pay10, pay8_eq, kLin]

/-- The values. -/
theorem pay12_eq : k0_pay12 (F := Ideal) (k0_pay11 (k0_pay3 g) (k0_pay4 b) (k0_pay5 X) (k0_pay6 X) (k0_pay7 X) W) c
    = kLin (kLN (k0_pay2 X) g b) W c := by
  simp only [k0_pay12, k0_pay11, pay8_eq, kLin]

/-- The rows after attention. -/
theorem pay64_eq : k0_pay64 (F := Ideal) x (kAtt (kChunk q 0) k v) (kAtt (kChunk q 1) k v) (kAtt (kChunk q 2) k v)
    (kDen (kExp (kScores (kChunk q 3) k))) (kAcc (kExp (kScores (kChunk q 3) k)) v) O c = kMid x q k v O c := by
  simp only [k0_pay64, kMid, kCat, kLin, kAtt]

/-- The centred rows. -/
theorem pay67_eq : k0_pay67 (F := Ideal) x = kCen x := by
  simp only [k0_pay67, kCen, kMean, kOne, kTwo, kFour, kFold, num]

/-- The mean of their squares. -/
theorem pay68_eq : k0_pay68 (F := Ideal) x = kMean (mulf (kCen x) (kCen x)) := by
  simp only [k0_pay68, pay67_eq, kMean, kOne, kTwo, kFour, kFold, num]

/-- The rows normalized before the experts. -/
theorem pay70_eq : k0_pay70 (F := Ideal) (k0_pay65 g) (k0_pay66 b) (k0_pay67 x) (k0_pay68 x) k0_pay69 = kLN x g b := by
  simp only [k0_pay70, pay67_eq, pay68_eq, k0_pay65, k0_pay66, k0_pay69, kLN, num]

section
variable (a1 a2 : V S64) (a3 : V S2048x64) (a4 a5 : V S2048x1)

/-- The gate's probabilities. -/
theorem pay71_eq : k0_pay71 (F := Ideal) a1 a2 a3 a4 a5 G = kProbs (kLogits (k0_pay70 a1 a2 a3 a4 a5) G) := by
  simp only [k0_pay71, kProbs, kGateExp, kMax, kBig, kLogits]

/-- The greatest of them. -/
theorem pay72_eq : k0_pay72 (F := Ideal) a1 a2 a3 a4 a5 G = kMax (kProbs (kLogits (k0_pay70 a1 a2 a3 a4 a5) G)) := by
  simp only [k0_pay72, pay71_eq, kMax, kBig]

/-- Where it stands. -/
theorem pay73_eq : k0_pay73 (F := Ideal) a1 a2 a3 a4 a5 G = kHot (kProbs (kLogits (k0_pay70 a1 a2 a3 a4 a5) G)) := by
  simp only [k0_pay73, pay72_eq, pay71_eq, kHot, kArg, kCols]

/-- The probabilities without it. -/
theorem pay74_eq : k0_pay74 (F := Ideal) a1 a2 a3 a4 a5 G = kRest (kProbs (kLogits (k0_pay70 a1 a2 a3 a4 a5) G)) := by
  simp only [k0_pay74, pay73_eq, pay71_eq, kRest, num]

/-- The weights of the experts. -/
theorem pay77_eq : k0_pay77 (F := Ideal) (iota .tc S2048x4 32 [1] iota_S2048x4_d1_w32) (k0_pay72 a1 a2 a3 a4 a5 G)
    (k0_pay73 a1 a2 a3 a4 a5 G) (k0_pay75 a1 a2 a3 a4 a5 G) (k0_pay76 a1 a2 a3 a4 a5 G)
    = kWeights (kProbs (kLogits (k0_pay70 a1 a2 a3 a4 a5) G)) := by
  simp only [k0_pay77, k0_pay75, k0_pay76, pay72_eq, pay73_eq, pay74_eq, kWeights, kPick, kHot, kArg, kMax, kBig, kCols, num]

end

/-- The rows after the experts. -/
theorem pay80_eq (i : IVec S2048x4 32) (m1 : V S2048x1) (hot : IVec S2048x4 1) (m2 : V S2048x1) (j : IVec S2048x1 32) :
    k0_pay80 (F := Ideal) x h (k0_pay77 i m1 hot m2 j) (k0_pay78 h i m1 hot m2 j (U 0) (D 0)) (k0_pay79 h (U 1)) (D 1)
      (U 2) (D 2) (U 3) (D 3) = kMix x h (k0_pay77 i m1 hot m2 j) U D := by
  simp only [k0_pay80, k0_pay78, k0_pay79, kMix, kTerm, kExpert, kUp, kCol, num]

/-! ### The second layer -/

/-- The centred rows. -/
theorem pay83_eq : k0_pay83 (F := Ideal) x = kCen x := by
  simp only [k0_pay83, kCen, kMean, kOne, kTwo, kFour, kFold, num]

/-- Their squares, folded to two columns. -/
theorem pay84_eq : k0_pay84 (F := Ideal) x = kTwo (kFour (kFold (mulf (kCen x) (kCen x)))) := by
  simp only [k0_pay84, pay83_eq, kTwo, kFour, kFold]

/-- The rows normalized before attention. -/
theorem pay87_eq : k0_pay87 (F := Ideal) (k0_pay81 g) (k0_pay82 b) (k0_pay83 x) (k0_pay85 x) (k0_pay86 x) = kLN x g b := by
  simp only [k0_pay87, k0_pay85, k0_pay86, pay83_eq, pay84_eq, k0_pay81, k0_pay82, kLN, kMean, kOne, num]

/-- The queries. -/
theorem pay88_eq : k0_pay88 (F := Ideal) (k0_pay81 g) (k0_pay82 b) (k0_pay83 x) (k0_pay85 x) (k0_pay86 x) W c
    = kLin (kLN x g b) W c := by
  simp only [k0_pay88, pay87_eq, kLin]

/-- The keys. -/
theorem pay89_eq : k0_pay89 (F := Ideal) (k0_pay81 g) (k0_pay82 b) (k0_pay83 x) (k0_pay85 x) (k0_pay86 x) W c
    = kLin (kLN x g b) W c := by
  simp only [k0_pay89, pay87_eq, kLin]

/-- The values. -/
theorem pay90_eq : k0_pay90 (F := Ideal) (k0_pay81 g) (k0_pay82 b) (k0_pay83 x) (k0_pay85 x) (k0_pay86 x) W c
    = kLin (kLN x g b) W c := by
  simp only [k0_pay90, pay87_eq, kLin]

/-- The rows after attention. -/
theorem pay142_eq : k0_pay142 (F := Ideal) x (kAtt (kChunk q 0) k v) (kAtt (kChunk q 1) k v) (kAtt (kChunk q 2) k v)
    (kDen (kExp (kScores (kChunk q 3) k))) (kAcc (kExp (kScores (kChunk q 3) k)) v) O c = kMid x q k v O c := by
  simp only [k0_pay142, kMid, kCat, kLin, kAtt]

/-- The rows normalized before the experts. -/
theorem pay148_eq (a0 a1 a2 : V S512x64) (d : V S512x1) (a : V S512x64) :
    k0_pay148 (F := Ideal) (k0_pay144 b) (k0_pay147 (k0_pay142 x a0 a1 a2 d a O c) (k0_pay143 g)
      (k0_pay145 x a0 a1 a2 d a O c) (k0_pay146 x a0 a1 a2 d a O c)) = kLN (k0_pay142 x a0 a1 a2 d a O c) g b := by
  simp only [k0_pay148, k0_pay147, k0_pay145, k0_pay146, k0_pay143, k0_pay144, kLN, kCen, kMean, kOne, kTwo, kFour, kFold, num]

section
variable (a1 : V S64) (a2 : V S2048x64)

/-- The gate's probabilities. -/
theorem pay149_eq : k0_pay149 (F := Ideal) a1 a2 G = kProbs (kLogits (k0_pay148 a1 a2) G) := by
  simp only [k0_pay149, kProbs, kGateExp, kMax, kBig, kLogits]

/-- The greatest of them. -/
theorem pay150_eq : k0_pay150 (F := Ideal) a1 a2 G = kMax (kProbs (kLogits (k0_pay148 a1 a2) G)) := by
  simp only [k0_pay150, pay149_eq, kMax, kBig]

/-- Where it stands. -/
theorem pay151_eq : k0_pay151 (F := Ideal) a1 a2 G = kHot (kProbs (kLogits (k0_pay148 a1 a2) G)) := by
  simp only [k0_pay151, pay150_eq, pay149_eq, kHot, kArg, kCols]

/-- The probabilities without it. -/
theorem pay152_eq : k0_pay152 (F := Ideal) a1 a2 G = kRest (kProbs (kLogits (k0_pay148 a1 a2) G)) := by
  simp only [k0_pay152, pay151_eq, pay149_eq, kRest, num]

/-- The weights of the experts. -/
theorem pay156_eq : k0_pay156 (F := Ideal) (k0_pay150 a1 a2 G) (k0_pay153 a1 a2 G) (k0_pay154 a1 a2 G) (k0_pay155 a1 a2 G)
    = kWeights (kProbs (kLogits (k0_pay148 a1 a2) G)) := by
  simp only [k0_pay156, k0_pay153, k0_pay154, k0_pay155, pay150_eq, pay151_eq, pay152_eq, kWeights, kPick, kHot, kArg,
    kMax, kBig, kCols, num]

end

/-- The last linear map of the rows after the experts. -/
theorem pay159_eq (m1 m2 : V S2048x1) (hot : IVec S2048x4 1) (p : V S2048x4) :
    k0_pay159 (F := Ideal) x h (k0_pay156 m1 m2 hot p) (k0_pay157 h m1 m2 hot p (U 0) (D 0)) (k0_pay158 h m1 m2 hot p (U 1) (D 1))
      (U 2) (D 2) (U 3) (D 3) H = kHead (kMix x h (k0_pay156 m1 m2 hot p) U D) H := by
  simp only [k0_pay159, k0_pay158, k0_pay157, kHead, kMix, kTerm, kExpert, kUp, kCol, num]

end Cert.KernStages

end
-- ==== Proof.Words.lean ====
module

public import proofs.«01_k».proof.Proof.Pays

@[expose] public section

set_option maxRecDepth 16384

noncomputable section

/-! What the kernel's run computes, word by word, in stages. -/

namespace Cert.KernStages

open Idealize.ShloMosaic Idealize.ShloMosaic.TcCoe Idealize.SL.Sem
open Cert.KernelIdeal Cert.KernelIdeal.Gen

/-- Row `l` of an array of two rows. -/
def pRow (x : V S2x64) (l : Fin 2) : V S1x64 :=
  View.ld (Val := Elt Ideal) (e' := .f32) x (Rect.unit (s := S2x64) ![l.val, 0] S1x64.size (by fin_cases l <;> decide))

/-- Matrix `l` of two. -/
def pMat (x : V S2x64x64) (l : Fin 2) : V S1x64x64 :=
  View.ld (Val := Elt Ideal) (e' := .f32) x (Rect.unit (s := S2x64x64) ![l.val, 0, 0] S1x64x64.size (by fin_cases l <;> decide))

/-- The offset of the queries, of the keys, of the values. -/
abbrev off : Fin 3 → ℕ
  | 0 => 0
  | 1 => 64
  | 2 => 128

/-- The matrix of queries, keys or values of layer `l`. -/
def pIn (x : V S2x192x64) (l : Fin 2) (o : Fin 3) : V S1x64x64 :=
  View.ld (Val := Elt Ideal) (e' := .f32) x
    (Rect.unit (s := S2x192x64) ![l.val, off o, 0] S1x64x64.size (by fin_cases l <;> fin_cases o <;> decide))

/-- The bias of queries, keys or values of layer `l`. -/
def pInB (x : V S2x192) (l : Fin 2) (o : Fin 3) : V S1x64 :=
  View.ld (Val := Elt Ideal) (e' := .f32) x
    (Rect.unit (s := S2x192) ![l.val, off o] S1x64.size (by fin_cases l <;> fin_cases o <;> decide))

/-- The gate of layer `l`. -/
def pGate (x : V S2x4x64) (l : Fin 2) : V S1x4x64 :=
  View.ld (Val := Elt Ideal) (e' := .f32) x (Rect.unit (s := S2x4x64) ![l.val, 0, 0] S1x4x64.size (by fin_cases l <;> decide))

/-- The first matrix of expert `e` of layer `l`. -/
def pUp (x : V S2x4x256x64) (l : Fin 2) (e : Fin 4) : V S1x1x256x64 :=
  View.ld (Val := Elt Ideal) (e' := .f32) x
    (Rect.unit (s := S2x4x256x64) ![l.val, e.val, 0, 0] S1x1x256x64.size (by fin_cases l <;> fin_cases e <;> decide))

/-- The second matrix of expert `e` of layer `l`. -/
def pDown (x : V S2x4x64x128) (l : Fin 2) (e : Fin 4) : V S1x1x64x128 :=
  View.ld (Val := Elt Ideal) (e' := .f32) x
    (Rect.unit (s := S2x4x64x128) ![l.val, e.val, 0, 0] S1x1x64x128.size (by fin_cases l <;> fin_cases e <;> decide))

/-- The block of one batch. -/
def pX (x : V S1x2048x64) : V S1x2048x64 :=
  View.ld (Val := Elt Ideal) (e' := .f32) x (Rect.unit (s := S1x2048x64) ![0, 0, 0] S1x2048x64.size inb_S1x2048x64_S1x2048x64_0_0_0)

/-- The matrix of the last map. -/
def pHead (x : V S100x64) : V S100x64 :=
  View.ld (Val := Elt Ideal) (e' := .f32) x (Rect.unit (s := S100x64) ![0, 0] S100x64.size inb_S100x64_S100x64_0_0)

variable (c : Dev nD)
  (arg1 : Memref sig .tc .vmem S1x2048x64 .f32) (harg1 : arg1.IsWhole)
  (arg2 : Memref sig .tc .vmem S2x64 .f32) (harg2 : arg2.IsWhole)
  (arg3 : Memref sig .tc .vmem S2x64 .f32) (harg3 : arg3.IsWhole)
  (arg4 : Memref sig .tc .vmem S2x192x64 .f32) (harg4 : arg4.IsWhole)
  (arg5 : Memref sig .tc .vmem S2x192 .f32) (harg5 : arg5.IsWhole)
  (arg6 : Memref sig .tc .vmem S2x64x64 .f32) (harg6 : arg6.IsWhole)
  (arg7 : Memref sig .tc .vmem S2x64 .f32) (harg7 : arg7.IsWhole)
  (arg8 : Memref sig .tc .vmem S2x64 .f32) (harg8 : arg8.IsWhole)
  (arg9 : Memref sig .tc .vmem S2x64 .f32) (harg9 : arg9.IsWhole)
  (arg10 : Memref sig .tc .vmem S2x4x64 .f32) (harg10 : arg10.IsWhole)
  (arg11 : Memref sig .tc .vmem S2x4x256x64 .f32) (harg11 : arg11.IsWhole)
  (arg12 : Memref sig .tc .vmem S2x4x64x128 .f32) (harg12 : arg12.IsWhole)
  (arg13 : Memref sig .tc .vmem S100x64 .f32) (harg13 : arg13.IsWhole)
  (arg14 : Memref sig .tc .vmem S1x100 .f32) (harg14 : arg14.IsWhole)
  (arg15 : Memref sig .tc .vmem S1x2048x100 .f32) (harg15 : arg15.IsWhole)
  (arg16 : Memref sig .tc .vmem S512x64 .f32) (harg16 : arg16.IsWhole)
  (x0 : Vec Ideal S1x2048x64 .f32)
  (x1 : Vec Ideal S2x64 .f32)
  (x2 : Vec Ideal S2x64 .f32)
  (x3 : Vec Ideal S2x192x64 .f32)
  (x4 : Vec Ideal S2x192 .f32)
  (x5 : Vec Ideal S2x64x64 .f32)
  (x6 : Vec Ideal S2x64 .f32)
  (x7 : Vec Ideal S2x64 .f32)
  (x8 : Vec Ideal S2x64 .f32)
  (x9 : Vec Ideal S2x4x64 .f32)
  (x10 : Vec Ideal S2x4x256x64 .f32)
  (x11 : Vec Ideal S2x4x64x128 .f32)
  (x12 : Vec Ideal S100x64 .f32)
  (x13 : Vec Ideal S1x100 .f32)

/-- Layer 1: the queries. -/
theorem word_r_6 : (kernelRun0_A.sl.r_6 (F := Ideal) c arg1 harg1 arg2 harg2 arg3 harg3 arg4 harg4 arg5 harg5 x0 x1 x2 x3 x4)
    = (kLin (kLN (kernelRun0_A.sl.r (F := Ideal) c arg1 harg1 x0) (pRow x1 0) (pRow x2 0)) (pIn x3 0 0) (pInB x4 0 0)) := by
  simp only [kernelRun0_A.sl.r_6, kernelRun0_A.sl.r_1, kernelRun0_A.sl.r_2, kernelRun0_A.sl.r_3, kernelRun0_A.sl.r_4, kernelRun0_A.sl.r_5, kernelRun0_A.sl.r, View.readAt_eq_ld, Memref.IsWhole.read_unread]
  exact pay9_eq (pX x0) (pRow x1 0) (pRow x2 0) (pInB x4 0 0) (pIn x3 0 0)

/-- Layer 1: the keys. -/
theorem word_r_7 : (kernelRun0_A.sl.r_7 (F := Ideal) c arg1 harg1 arg2 harg2 arg3 harg3 arg4 harg4 arg5 harg5 x0 x1 x2 x3 x4)
    = (kLin (kLN (kernelRun0_A.sl.r (F := Ideal) c arg1 harg1 x0) (pRow x1 0) (pRow x2 0)) (pIn x3 0 1) (pInB x4 0 1)) := by
  simp only [kernelRun0_A.sl.r_7, kernelRun0_A.sl.r_1, kernelRun0_A.sl.r_2, kernelRun0_A.sl.r_3, kernelRun0_A.sl.r_4, kernelRun0_A.sl.r_5, kernelRun0_A.sl.r, View.readAt_eq_ld, Memref.IsWhole.read_unread]
  exact pay10_eq (pX x0) (pRow x1 0) (pRow x2 0) (pInB x4 0 1) (pIn x3 0 1)

/-- Layer 1: the values. -/
theorem word_r_9 : (kernelRun0_A.sl.r_9 (F := Ideal) c arg1 harg1 arg2 harg2 arg3 harg3 arg4 harg4 arg5 harg5 x0 x1 x2 x3 x4)
    = (kLin (kLN (kernelRun0_A.sl.r (F := Ideal) c arg1 harg1 x0) (pRow x1 0) (pRow x2 0)) (pIn x3 0 2) (pInB x4 0 2)) := by
  simp only [kernelRun0_A.sl.r_9, kernelRun0_A.sl.r_1, kernelRun0_A.sl.r_2, kernelRun0_A.sl.r_3, kernelRun0_A.sl.r_4, kernelRun0_A.sl.r_5, kernelRun0_A.sl.r, kernelRun0_A.sl.r_8, View.readAt_eq_ld, Memref.IsWhole.read_unread]
  exact pay12_eq (pX x0) (pRow x1 0) (pRow x2 0) (pInB x4 0 2) (pIn x3 0 2)

/-- Layer 1: attention of chunk 0. -/
theorem word_r_15 : (kernelRun0_A.sl.r_15 (F := Ideal) c arg1 harg1 arg2 harg2 arg3 harg3 arg4 harg4 arg5 harg5 arg16 x0 x1 x2 x3 x4)
    = kAtt (kChunk (kernelRun0_A.sl.r_6 (F := Ideal) c arg1 harg1 arg2 harg2 arg3 harg3 arg4 harg4 arg5 harg5 x0 x1 x2 x3 x4) 0) (kernelRun0_A.sl.r_7 (F := Ideal) c arg1 harg1 arg2 harg2 arg3 harg3 arg4 harg4 arg5 harg5 x0 x1 x2 x3 x4) (kernelRun0_A.sl.r_9 (F := Ideal) c arg1 harg1 arg2 harg2 arg3 harg3 arg4 harg4 arg5 harg5 x0 x1 x2 x3 x4) := by
  simp (disch := decide) only [kernelRun0_A.sl.r_15, kernelRun0_A.sl.r_11, kernelRun0_A.sl.v169, kernelRun0_A.sl.HS0_8, kernelRun0_A.sl.r_14, kernelRun0_A.sl.r_9, kernelRun0_A.sl.r_10, kernelRun0_A.sl.v164, kernelRun0_A.sl.HS0_7, kernelRun0_A.sl.v156, kernelRun0_A.sl.HS0_6, kernelRun0_A.sl.v148, kernelRun0_A.sl.HS0_5, kernelRun0_A.sl.v140, kernelRun0_A.sl.HS0_4, kernelRun0_A.sl.r_12, kernelRun0_A.sl.r_13, kernelRun0_A.sl.v132, kernelRun0_A.sl.HS0_3, kernelRun0_A.sl.v124, kernelRun0_A.sl.HS0_2, kernelRun0_A.sl.v116, kernelRun0_A.sl.HS0_1, k0_pay26, k0_pay14, k0_pay13, k0_pay25, k0_pay24, k0_pay12, k0_pay23, k0_pay22, k0_pay21, k0_pay20, k0_pay18, k0_pay19, k0_pay17, k0_pay16, k0_pay15, num, kAtt, kAcc, kKeep, kPart, kDot, kDen, kExp, kTop, kScores, kChunk,
    View.readCov_unit_lit', View.readCov_cons_unit_lit', View.readAt_eq_ld, Memref.IsWhole.read_unread]

/-- Layer 1: attention of chunk 1. -/
theorem word_r_20 : (kernelRun0_A.sl.r_20 (F := Ideal) c arg1 harg1 arg2 harg2 arg3 harg3 arg4 harg4 arg5 harg5 arg16 x0 x1 x2 x3 x4)
    = kAtt (kChunk (kernelRun0_A.sl.r_6 (F := Ideal) c arg1 harg1 arg2 harg2 arg3 harg3 arg4 harg4 arg5 harg5 x0 x1 x2 x3 x4) 1) (kernelRun0_A.sl.r_7 (F := Ideal) c arg1 harg1 arg2 harg2 arg3 harg3 arg4 harg4 arg5 harg5 x0 x1 x2 x3 x4) (kernelRun0_A.sl.r_9 (F := Ideal) c arg1 harg1 arg2 harg2 arg3 harg3 arg4 harg4 arg5 harg5 x0 x1 x2 x3 x4) := by
  simp (disch := decide) only [kernelRun0_A.sl.r_20, kernelRun0_A.sl.r_17, kernelRun0_A.sl.v245, kernelRun0_A.sl.HS0_16, kernelRun0_A.sl.r_16, kernelRun0_A.sl.v240, kernelRun0_A.sl.HS0_15, kernelRun0_A.sl.r_19, kernelRun0_A.sl.v232, kernelRun0_A.sl.HS0_14, kernelRun0_A.sl.v224, kernelRun0_A.sl.HS0_13, kernelRun0_A.sl.v216, kernelRun0_A.sl.HS0_12, kernelRun0_A.sl.v208, kernelRun0_A.sl.HS0_11, kernelRun0_A.sl.r_18, kernelRun0_A.sl.v200, kernelRun0_A.sl.HS0_10, kernelRun0_A.sl.v192, kernelRun0_A.sl.HS0_9, kernelRun0_A.sl.HS0_8, kernelRun0_A.sl.r_14, kernelRun0_A.sl.r_10, kernelRun0_A.sl.v164, kernelRun0_A.sl.HS0_7, kernelRun0_A.sl.v156, kernelRun0_A.sl.HS0_6, kernelRun0_A.sl.v148, kernelRun0_A.sl.HS0_5, kernelRun0_A.sl.v140, kernelRun0_A.sl.HS0_4, kernelRun0_A.sl.r_12, kernelRun0_A.sl.r_13, kernelRun0_A.sl.r_8, kernelRun0_A.sl.r_1, kernelRun0_A.sl.r_2, kernelRun0_A.sl.r_3, kernelRun0_A.sl.r_4, kernelRun0_A.sl.r_5, kernelRun0_A.sl.v132, kernelRun0_A.sl.HS0_3, kernelRun0_A.sl.v124, kernelRun0_A.sl.HS0_2, kernelRun0_A.sl.v116, kernelRun0_A.sl.HS0_1, k0_pay39, k0_pay28, k0_pay27, k0_pay38, k0_pay37, k0_pay36, k0_pay35, k0_pay34, k0_pay33, k0_pay32, k0_pay31, k0_pay30, k0_pay29, k0_pay25, k0_pay24, k0_pay13, k0_pay23, k0_pay22, k0_pay21, k0_pay20, k0_pay18, k0_pay19, k0_pay12, k0_pay11, k0_pay8, k0_pay3, k0_pay4, k0_pay5, k0_pay2, k0_pay6, k0_pay7, k0_pay17, k0_pay16, k0_pay15, num, kAtt, kAcc, kKeep, kPart, kDot, kDen, kExp, kTop, kScores, kChunk,
    View.readCov_unit_lit', View.readCov_cons_unit_lit', View.readAt_eq_ld, Memref.IsWhole.read_unread]

/-- Layer 1: attention of chunk 2. -/
theorem word_r_24 : (kernelRun0_A.sl.r_24 (F := Ideal) c arg1 harg1 arg2 harg2 arg3 harg3 arg4 harg4 arg5 harg5 arg16 x0 x1 x2 x3 x4)
    = kAtt (kChunk (kernelRun0_A.sl.r_6 (F := Ideal) c arg1 harg1 arg2 harg2 arg3 harg3 arg4 harg4 arg5 harg5 x0 x1 x2 x3 x4) 2) (kernelRun0_A.sl.r_7 (F := Ideal) c arg1 harg1 arg2 harg2 arg3 harg3 arg4 harg4 arg5 harg5 x0 x1 x2 x3 x4) (kernelRun0_A.sl.r_9 (F := Ideal) c arg1 harg1 arg2 harg2 arg3 harg3 arg4 harg4 arg5 harg5 x0 x1 x2 x3 x4) := by
  simp (disch := decide) only [kernelRun0_A.sl.r_24, kernelRun0_A.sl.r_22, kernelRun0_A.sl.v321, kernelRun0_A.sl.HS0_24, kernelRun0_A.sl.r_21, kernelRun0_A.sl.v316, kernelRun0_A.sl.HS0_23, kernelRun0_A.sl.r_23, kernelRun0_A.sl.v308, kernelRun0_A.sl.HS0_22, kernelRun0_A.sl.v300, kernelRun0_A.sl.HS0_21, kernelRun0_A.sl.v292, kernelRun0_A.sl.HS0_20, kernelRun0_A.sl.v284, kernelRun0_A.sl.HS0_19, kernelRun0_A.sl.v276, kernelRun0_A.sl.HS0_18, kernelRun0_A.sl.v268, kernelRun0_A.sl.HS0_17, kernelRun0_A.sl.HS0_16, kernelRun0_A.sl.r_16, kernelRun0_A.sl.v240, kernelRun0_A.sl.HS0_15, kernelRun0_A.sl.r_19, kernelRun0_A.sl.v232, kernelRun0_A.sl.HS0_14, kernelRun0_A.sl.v224, kernelRun0_A.sl.HS0_13, kernelRun0_A.sl.v216, kernelRun0_A.sl.HS0_12, kernelRun0_A.sl.v208, kernelRun0_A.sl.HS0_11, kernelRun0_A.sl.r_18, kernelRun0_A.sl.v200, kernelRun0_A.sl.HS0_10, kernelRun0_A.sl.v192, kernelRun0_A.sl.HS0_9, kernelRun0_A.sl.HS0_8, kernelRun0_A.sl.r_14, kernelRun0_A.sl.r_10, kernelRun0_A.sl.v164, kernelRun0_A.sl.HS0_7, kernelRun0_A.sl.v156, kernelRun0_A.sl.HS0_6, kernelRun0_A.sl.v148, kernelRun0_A.sl.HS0_5, kernelRun0_A.sl.v140, kernelRun0_A.sl.HS0_4, kernelRun0_A.sl.r_12, kernelRun0_A.sl.r_13, kernelRun0_A.sl.r_8, kernelRun0_A.sl.r_1, kernelRun0_A.sl.r_2, kernelRun0_A.sl.r_3, kernelRun0_A.sl.r_4, kernelRun0_A.sl.r_5, kernelRun0_A.sl.v132, kernelRun0_A.sl.HS0_3, kernelRun0_A.sl.v124, kernelRun0_A.sl.HS0_2, kernelRun0_A.sl.v116, kernelRun0_A.sl.HS0_1, k0_pay51, k0_pay41, k0_pay40, k0_pay50, k0_pay49, k0_pay48, k0_pay47, k0_pay46, k0_pay45, k0_pay44, k0_pay43, k0_pay42, k0_pay38, k0_pay27, k0_pay37, k0_pay36, k0_pay35, k0_pay34, k0_pay33, k0_pay32, k0_pay31, k0_pay30, k0_pay29, k0_pay25, k0_pay24, k0_pay13, k0_pay23, k0_pay22, k0_pay21, k0_pay20, k0_pay18, k0_pay19, k0_pay12, k0_pay11, k0_pay8, k0_pay3, k0_pay4, k0_pay5, k0_pay2, k0_pay6, k0_pay7, k0_pay17, k0_pay16, k0_pay15, num, kAtt, kAcc, kKeep, kPart, kDot, kDen, kExp, kTop, kScores, kChunk,
    View.readCov_unit_lit', View.readCov_cons_unit_lit', View.readAt_eq_ld, Memref.IsWhole.read_unread]

/-- Layer 1: the sums of the last chunk. -/
theorem word_r_26 : (kernelRun0_A.sl.r_26 (F := Ideal) c arg1 harg1 arg2 harg2 arg3 harg3 arg4 harg4 arg5 harg5 x0 x1 x2 x3 x4)
    = kDen (kExp (kScores (kChunk (kernelRun0_A.sl.r_6 (F := Ideal) c arg1 harg1 arg2 harg2 arg3 harg3 arg4 harg4 arg5 harg5 x0 x1 x2 x3 x4) 3) (kernelRun0_A.sl.r_7 (F := Ideal) c arg1 harg1 arg2 harg2 arg3 harg3 arg4 harg4 arg5 harg5 x0 x1 x2 x3 x4))) := by
  simp (disch := decide) only [kernelRun0_A.sl.r_26, k0_pay53, k0_pay52, num, kAtt, kAcc, kKeep, kPart, kDot, kDen, kExp, kTop, kScores, kChunk,
    View.readCov_unit_lit', View.readCov_cons_unit_lit', View.readAt_eq_ld, Memref.IsWhole.read_unread]

/-- Layer 1: the accumulator of the last chunk. -/
theorem word_v397 : (kernelRun0_A.sl.v397 (F := Ideal) c arg1 harg1 arg2 harg2 arg3 harg3 arg4 harg4 arg5 harg5 arg16 x0 x1 x2 x3 x4)
    = kAcc (kExp (kScores (kChunk (kernelRun0_A.sl.r_6 (F := Ideal) c arg1 harg1 arg2 harg2 arg3 harg3 arg4 harg4 arg5 harg5 x0 x1 x2 x3 x4) 3) (kernelRun0_A.sl.r_7 (F := Ideal) c arg1 harg1 arg2 harg2 arg3 harg3 arg4 harg4 arg5 harg5 x0 x1 x2 x3 x4))) (kernelRun0_A.sl.r_9 (F := Ideal) c arg1 harg1 arg2 harg2 arg3 harg3 arg4 harg4 arg5 harg5 x0 x1 x2 x3 x4) := by
  simp (disch := decide) only [kernelRun0_A.sl.v397, kernelRun0_A.sl.HS0_32, kernelRun0_A.sl.r_25, kernelRun0_A.sl.v392, kernelRun0_A.sl.HS0_31, kernelRun0_A.sl.v384, kernelRun0_A.sl.HS0_30, kernelRun0_A.sl.r_28, kernelRun0_A.sl.v376, kernelRun0_A.sl.HS0_29, kernelRun0_A.sl.v368, kernelRun0_A.sl.HS0_28, kernelRun0_A.sl.v360, kernelRun0_A.sl.HS0_27, kernelRun0_A.sl.v352, kernelRun0_A.sl.HS0_26, kernelRun0_A.sl.r_27, kernelRun0_A.sl.v344, kernelRun0_A.sl.HS0_25, kernelRun0_A.sl.HS0_24, kernelRun0_A.sl.r_21, kernelRun0_A.sl.v316, kernelRun0_A.sl.HS0_23, kernelRun0_A.sl.r_23, kernelRun0_A.sl.v308, kernelRun0_A.sl.HS0_22, kernelRun0_A.sl.v300, kernelRun0_A.sl.HS0_21, kernelRun0_A.sl.v292, kernelRun0_A.sl.HS0_20, kernelRun0_A.sl.v284, kernelRun0_A.sl.HS0_19, kernelRun0_A.sl.v276, kernelRun0_A.sl.HS0_18, kernelRun0_A.sl.v268, kernelRun0_A.sl.HS0_17, kernelRun0_A.sl.HS0_16, kernelRun0_A.sl.r_16, kernelRun0_A.sl.v240, kernelRun0_A.sl.HS0_15, kernelRun0_A.sl.r_19, kernelRun0_A.sl.v232, kernelRun0_A.sl.HS0_14, kernelRun0_A.sl.v224, kernelRun0_A.sl.HS0_13, kernelRun0_A.sl.v216, kernelRun0_A.sl.HS0_12, kernelRun0_A.sl.v208, kernelRun0_A.sl.HS0_11, kernelRun0_A.sl.r_18, kernelRun0_A.sl.v200, kernelRun0_A.sl.HS0_10, kernelRun0_A.sl.v192, kernelRun0_A.sl.HS0_9, kernelRun0_A.sl.HS0_8, kernelRun0_A.sl.r_14, kernelRun0_A.sl.r_10, kernelRun0_A.sl.v164, kernelRun0_A.sl.HS0_7, kernelRun0_A.sl.v156, kernelRun0_A.sl.HS0_6, kernelRun0_A.sl.v148, kernelRun0_A.sl.HS0_5, kernelRun0_A.sl.v140, kernelRun0_A.sl.HS0_4, kernelRun0_A.sl.r_12, kernelRun0_A.sl.r_13, kernelRun0_A.sl.r_8, kernelRun0_A.sl.r_1, kernelRun0_A.sl.r_2, kernelRun0_A.sl.r_3, kernelRun0_A.sl.r_4, kernelRun0_A.sl.r_5, kernelRun0_A.sl.v132, kernelRun0_A.sl.HS0_3, kernelRun0_A.sl.v124, kernelRun0_A.sl.HS0_2, kernelRun0_A.sl.v116, kernelRun0_A.sl.HS0_1, k0_pay63, k0_pay52, k0_pay62, k0_pay61, k0_pay60, k0_pay59, k0_pay58, k0_pay57, k0_pay56, k0_pay55, k0_pay54, k0_pay50, k0_pay40, k0_pay49, k0_pay48, k0_pay47, k0_pay46, k0_pay45, k0_pay44, k0_pay43, k0_pay42, k0_pay38, k0_pay27, k0_pay37, k0_pay36, k0_pay35, k0_pay34, k0_pay33, k0_pay32, k0_pay31, k0_pay30, k0_pay29, k0_pay25, k0_pay24, k0_pay13, k0_pay23, k0_pay22, k0_pay21, k0_pay20, k0_pay18, k0_pay19, k0_pay12, k0_pay11, k0_pay8, k0_pay3, k0_pay4, k0_pay5, k0_pay2, k0_pay6, k0_pay7, k0_pay17, k0_pay16, k0_pay15, num, kAtt, kAcc, kKeep, kPart, kDot, kDen, kExp, kTop, kScores, kChunk,
    View.readCov_unit_lit', View.readCov_cons_unit_lit', View.readAt_eq_ld, Memref.IsWhole.read_unread]

/-- Layer 1: the rows after attention. -/
theorem word_r_29 : (kernelRun0_A.sl.r_29 (F := Ideal) c arg1 harg1 arg2 harg2 arg3 harg3 arg4 harg4 arg5 harg5 arg6 harg6 arg7 harg7 arg16 x0 x1 x2 x3 x4 x5 x6)
    = kMid (kernelRun0_A.sl.r (F := Ideal) c arg1 harg1 x0) (kernelRun0_A.sl.r_6 (F := Ideal) c arg1 harg1 arg2 harg2 arg3 harg3 arg4 harg4 arg5 harg5 x0 x1 x2 x3 x4) (kernelRun0_A.sl.r_7 (F := Ideal) c arg1 harg1 arg2 harg2 arg3 harg3 arg4 harg4 arg5 harg5 x0 x1 x2 x3 x4) (kernelRun0_A.sl.r_9 (F := Ideal) c arg1 harg1 arg2 harg2 arg3 harg3 arg4 harg4 arg5 harg5 x0 x1 x2 x3 x4) (pMat x5 0) (pRow x6 0) := by
  simp only [kernelRun0_A.sl.r_29, View.readAt_eq_ld, Memref.IsWhole.read_unread]
  rw [word_r_15, word_r_20, word_r_24, word_r_26, word_v397]
  exact pay64_eq (kernelRun0_A.sl.r (F := Ideal) c arg1 harg1 x0) (kernelRun0_A.sl.r_6 (F := Ideal) c arg1 harg1 arg2 harg2 arg3 harg3 arg4 harg4 arg5 harg5 x0 x1 x2 x3 x4) (kernelRun0_A.sl.r_7 (F := Ideal) c arg1 harg1 arg2 harg2 arg3 harg3 arg4 harg4 arg5 harg5 x0 x1 x2 x3 x4) (kernelRun0_A.sl.r_9 (F := Ideal) c arg1 harg1 arg2 harg2 arg3 harg3 arg4 harg4 arg5 harg5 x0 x1 x2 x3 x4) (pRow x6 0) (pMat x5 0)

/-- Layer 1: the rows normalized before the experts. -/
theorem word_r_35 : (kernelRun0_A.sl.r_35 (F := Ideal) c arg1 harg1 arg2 harg2 arg3 harg3 arg4 harg4 arg5 harg5 arg6 harg6 arg7 harg7 arg8 harg8 arg9 harg9 arg16 x0 x1 x2 x3 x4 x5 x6 x7 x8)
    = kLN (kernelRun0_A.sl.r_29 (F := Ideal) c arg1 harg1 arg2 harg2 arg3 harg3 arg4 harg4 arg5 harg5 arg6 harg6 arg7 harg7 arg16 x0 x1 x2 x3 x4 x5 x6) (pRow x7 0) (pRow x8 0) := by
  simp only [kernelRun0_A.sl.r_35, kernelRun0_A.sl.r_30, kernelRun0_A.sl.r_31, kernelRun0_A.sl.r_32, kernelRun0_A.sl.r_33, kernelRun0_A.sl.r_34, View.readAt_eq_ld, Memref.IsWhole.read_unread]
  exact pay70_eq (kernelRun0_A.sl.r_29 (F := Ideal) c arg1 harg1 arg2 harg2 arg3 harg3 arg4 harg4 arg5 harg5 arg6 harg6 arg7 harg7 arg16 x0 x1 x2 x3 x4 x5 x6) (pRow x7 0) (pRow x8 0)

/-- Layer 1: the weights of the experts. -/
theorem word_r_40 : (kernelRun0_A.sl.r_40 (F := Ideal) c arg1 harg1 arg2 harg2 arg3 harg3 arg4 harg4 arg5 harg5 arg6 harg6 arg7 harg7 arg8 harg8 arg9 harg9 arg10 harg10 arg16 x0 x1 x2 x3 x4 x5 x6 x7 x8 x9)
    = kWeights (kProbs (kLogits (kernelRun0_A.sl.r_35 (F := Ideal) c arg1 harg1 arg2 harg2 arg3 harg3 arg4 harg4 arg5 harg5 arg6 harg6 arg7 harg7 arg8 harg8 arg9 harg9 arg16 x0 x1 x2 x3 x4 x5 x6 x7 x8) (pGate x9 0))) := by
  simp only [kernelRun0_A.sl.r_40, kernelRun0_A.sl.v497, kernelRun0_A.sl.r_36, kernelRun0_A.sl.r_37, kernelRun0_A.sl.r_38, kernelRun0_A.sl.r_39, kernelRun0_A.sl.r_35, View.readAt_eq_ld, Memref.IsWhole.read_unread]
  exact pay77_eq (pGate x9 0) _ _ _ _ _

/-- Layer 1: the rows after the experts. -/
theorem word_r_43 : (kernelRun0_A.sl.r_43 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11)
    = kMix (kernelRun0_A.sl.r_29 (F := Ideal) c arg1 harg1 arg2 harg2 arg3 harg3 arg4 harg4 arg5 harg5 arg6 harg6 arg7 harg7 arg16 x0 x1 x2 x3 x4 x5 x6) (kernelRun0_A.sl.r_35 (F := Ideal) c arg1 harg1 arg2 harg2 arg3 harg3 arg4 harg4 arg5 harg5 arg6 harg6 arg7 harg7 arg8 harg8 arg9 harg9 arg16 x0 x1 x2 x3 x4 x5 x6 x7 x8) (kernelRun0_A.sl.r_40 (F := Ideal) c arg1 harg1 arg2 harg2 arg3 harg3 arg4 harg4 arg5 harg5 arg6 harg6 arg7 harg7 arg8 harg8 arg9 harg9 arg10 harg10 arg16 x0 x1 x2 x3 x4 x5 x6 x7 x8 x9) (pUp x10 0) (pDown x11 0) := by
  simp only [kernelRun0_A.sl.r_43, kernelRun0_A.sl.r_40, kernelRun0_A.sl.r_41, kernelRun0_A.sl.r_42, View.readAt_eq_ld, Memref.IsWhole.read_unread]
  exact pay80_eq (kernelRun0_A.sl.r_29 (F := Ideal) c arg1 harg1 arg2 harg2 arg3 harg3 arg4 harg4 arg5 harg5 arg6 harg6 arg7 harg7 arg16 x0 x1 x2 x3 x4 x5 x6) (kernelRun0_A.sl.r_35 (F := Ideal) c arg1 harg1 arg2 harg2 arg3 harg3 arg4 harg4 arg5 harg5 arg6 harg6 arg7 harg7 arg8 harg8 arg9 harg9 arg16 x0 x1 x2 x3 x4 x5 x6 x7 x8) (pUp x10 0) (pDown x11 0) _ _ _ _ _

/-- Layer 2: the first chunk of queries. -/
theorem word_r_52 : (kernelRun0_A.sl.r_52 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11)
    = kChunk (kernelRun0_A.sl.r_49 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) 0 := by
  simp only [kernelRun0_A.sl.r_52, kernelRun0_A.sl.r_49, k0_pay91, kChunk]

/-- Layer 2: the queries. -/
theorem word_r_49 : (kernelRun0_A.sl.r_49 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11)
    = (kLin (kLN (kernelRun0_A.sl.r_43 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (pRow x1 1) (pRow x2 1)) (pIn x3 1 0) (pInB x4 1 0)) := by
  simp only [kernelRun0_A.sl.r_49, kernelRun0_A.sl.r_44, kernelRun0_A.sl.r_45, kernelRun0_A.sl.r_46, kernelRun0_A.sl.r_47, kernelRun0_A.sl.r_48, View.readAt_eq_ld, Memref.IsWhole.read_unread]
  exact pay88_eq (kernelRun0_A.sl.r_43 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (pRow x1 1) (pRow x2 1) (pInB x4 1 0) (pIn x3 1 0)

/-- Layer 2: the keys. -/
theorem word_r_50 : (kernelRun0_A.sl.r_50 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11)
    = (kLin (kLN (kernelRun0_A.sl.r_43 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (pRow x1 1) (pRow x2 1)) (pIn x3 1 1) (pInB x4 1 1)) := by
  simp only [kernelRun0_A.sl.r_50, kernelRun0_A.sl.r_44, kernelRun0_A.sl.r_45, kernelRun0_A.sl.r_46, kernelRun0_A.sl.r_47, kernelRun0_A.sl.r_48, View.readAt_eq_ld, Memref.IsWhole.read_unread]
  exact pay89_eq (kernelRun0_A.sl.r_43 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (pRow x1 1) (pRow x2 1) (pInB x4 1 1) (pIn x3 1 1)

/-- Layer 2: the values. -/
theorem word_r_51 : (kernelRun0_A.sl.r_51 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11)
    = (kLin (kLN (kernelRun0_A.sl.r_43 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (pRow x1 1) (pRow x2 1)) (pIn x3 1 2) (pInB x4 1 2)) := by
  simp only [kernelRun0_A.sl.r_51, kernelRun0_A.sl.r_44, kernelRun0_A.sl.r_45, kernelRun0_A.sl.r_46, kernelRun0_A.sl.r_47, kernelRun0_A.sl.r_48, View.readAt_eq_ld, Memref.IsWhole.read_unread]
  exact pay90_eq (kernelRun0_A.sl.r_43 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (pRow x1 1) (pRow x2 1) (pInB x4 1 2) (pIn x3 1 2)

/-- Layer 2: attention of chunk 0. -/
theorem word_r_57 : (kernelRun0_A.sl.r_57 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11)
    = kAtt (kChunk (kernelRun0_A.sl.r_49 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) 0) (kernelRun0_A.sl.r_50 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (kernelRun0_A.sl.r_51 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) := by
  simp (disch := decide) only [kernelRun0_A.sl.r_57, kernelRun0_A.sl.r_54, kernelRun0_A.sl.cst_289, kernelRun0_A.sl.v761, kernelRun0_A.sl.HS0_40, kernelRun0_A.sl.r_56, kernelRun0_A.sl.r_53, kernelRun0_A.sl.v756, kernelRun0_A.sl.HS0_39, kernelRun0_A.sl.v748, kernelRun0_A.sl.HS0_38, kernelRun0_A.sl.v740, kernelRun0_A.sl.HS0_37, kernelRun0_A.sl.v732, kernelRun0_A.sl.HS0_36, kernelRun0_A.sl.r_55, kernelRun0_A.sl.v724, kernelRun0_A.sl.HS0_35, kernelRun0_A.sl.v716, kernelRun0_A.sl.HS0_34, kernelRun0_A.sl.v708, kernelRun0_A.sl.HS0_33, kernelRun0_A.sl.HS0_32, kernelRun0_A.sl.r_9, kernelRun0_A.sl.r_8, kernelRun0_A.sl.r_1, kernelRun0_A.sl.r_2, kernelRun0_A.sl.r_3, kernelRun0_A.sl.r_4, kernelRun0_A.sl.r_5, kernelRun0_A.sl.r_25, kernelRun0_A.sl.r_6, kernelRun0_A.sl.r_7, kernelRun0_A.sl.v392, kernelRun0_A.sl.HS0_31, kernelRun0_A.sl.v384, kernelRun0_A.sl.HS0_30, kernelRun0_A.sl.r_28, kernelRun0_A.sl.v376, kernelRun0_A.sl.HS0_29, kernelRun0_A.sl.v368, kernelRun0_A.sl.HS0_28, kernelRun0_A.sl.v360, kernelRun0_A.sl.HS0_27, kernelRun0_A.sl.v352, kernelRun0_A.sl.HS0_26, kernelRun0_A.sl.r_27, kernelRun0_A.sl.v344, kernelRun0_A.sl.HS0_25, kernelRun0_A.sl.HS0_24, kernelRun0_A.sl.r_21, kernelRun0_A.sl.v316, kernelRun0_A.sl.HS0_23, kernelRun0_A.sl.r_23, kernelRun0_A.sl.v308, kernelRun0_A.sl.HS0_22, kernelRun0_A.sl.v300, kernelRun0_A.sl.HS0_21, kernelRun0_A.sl.v292, kernelRun0_A.sl.HS0_20, kernelRun0_A.sl.v284, kernelRun0_A.sl.HS0_19, kernelRun0_A.sl.v276, kernelRun0_A.sl.HS0_18, kernelRun0_A.sl.v268, kernelRun0_A.sl.HS0_17, kernelRun0_A.sl.HS0_16, kernelRun0_A.sl.r_16, kernelRun0_A.sl.v240, kernelRun0_A.sl.HS0_15, kernelRun0_A.sl.r_19, kernelRun0_A.sl.v232, kernelRun0_A.sl.HS0_14, kernelRun0_A.sl.v224, kernelRun0_A.sl.HS0_13, kernelRun0_A.sl.v216, kernelRun0_A.sl.HS0_12, kernelRun0_A.sl.v208, kernelRun0_A.sl.HS0_11, kernelRun0_A.sl.r_18, kernelRun0_A.sl.v200, kernelRun0_A.sl.HS0_10, kernelRun0_A.sl.v192, kernelRun0_A.sl.HS0_9, kernelRun0_A.sl.HS0_8, kernelRun0_A.sl.r_14, kernelRun0_A.sl.r_10, kernelRun0_A.sl.v164, kernelRun0_A.sl.HS0_7, kernelRun0_A.sl.v156, kernelRun0_A.sl.HS0_6, kernelRun0_A.sl.v148, kernelRun0_A.sl.HS0_5, kernelRun0_A.sl.v140, kernelRun0_A.sl.HS0_4, kernelRun0_A.sl.r_12, kernelRun0_A.sl.r_13, kernelRun0_A.sl.v132, kernelRun0_A.sl.HS0_3, kernelRun0_A.sl.v124, kernelRun0_A.sl.HS0_2, kernelRun0_A.sl.v116, kernelRun0_A.sl.HS0_1, k0_pay103, k0_pay93, k0_pay92, k0_pay102, k0_pay101, k0_pay100, k0_pay99, k0_pay98, k0_pay97, k0_pay96, k0_pay95, k0_pay94, k0_pay63, k0_pay12, k0_pay11, k0_pay8, k0_pay3, k0_pay4, k0_pay5, k0_pay2, k0_pay6, k0_pay7, k0_pay52, k0_pay9, k0_pay10, k0_pay62, k0_pay61, k0_pay60, k0_pay59, k0_pay58, k0_pay57, k0_pay56, k0_pay55, k0_pay54, k0_pay50, k0_pay40, k0_pay49, k0_pay48, k0_pay47, k0_pay46, k0_pay45, k0_pay44, k0_pay43, k0_pay42, k0_pay38, k0_pay27, k0_pay37, k0_pay36, k0_pay35, k0_pay34, k0_pay33, k0_pay32, k0_pay31, k0_pay30, k0_pay29, k0_pay25, k0_pay24, k0_pay13, k0_pay23, k0_pay22, k0_pay21, k0_pay20, k0_pay18, k0_pay19, k0_pay17, k0_pay16, k0_pay15, num, kAtt, kAcc, kKeep, kPart, kDot, kDen, kExp, kTop, kScores, kChunk, word_r_52,
    View.readCov_unit_lit', View.readCov_cons_unit_lit', View.readAt_eq_ld, Memref.IsWhole.read_unread]

/-- Layer 2: attention of chunk 1. -/
theorem word_r_62 : (kernelRun0_A.sl.r_62 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11)
    = kAtt (kChunk (kernelRun0_A.sl.r_49 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) 1) (kernelRun0_A.sl.r_50 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (kernelRun0_A.sl.r_51 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) := by
  simp (disch := decide) only [kernelRun0_A.sl.r_62, kernelRun0_A.sl.r_59, kernelRun0_A.sl.v837, kernelRun0_A.sl.HS0_48, kernelRun0_A.sl.r_61, kernelRun0_A.sl.r_58, kernelRun0_A.sl.v832, kernelRun0_A.sl.HS0_47, kernelRun0_A.sl.v824, kernelRun0_A.sl.HS0_46, kernelRun0_A.sl.v816, kernelRun0_A.sl.HS0_45, kernelRun0_A.sl.v808, kernelRun0_A.sl.HS0_44, kernelRun0_A.sl.r_60, kernelRun0_A.sl.v800, kernelRun0_A.sl.HS0_43, kernelRun0_A.sl.v792, kernelRun0_A.sl.HS0_42, kernelRun0_A.sl.v784, kernelRun0_A.sl.HS0_41, kernelRun0_A.sl.HS0_40, kernelRun0_A.sl.r_56, kernelRun0_A.sl.r_53, kernelRun0_A.sl.cst_289, kernelRun0_A.sl.v756, kernelRun0_A.sl.HS0_39, kernelRun0_A.sl.v748, kernelRun0_A.sl.HS0_38, kernelRun0_A.sl.v740, kernelRun0_A.sl.HS0_37, kernelRun0_A.sl.v732, kernelRun0_A.sl.HS0_36, kernelRun0_A.sl.r_55, kernelRun0_A.sl.v724, kernelRun0_A.sl.HS0_35, kernelRun0_A.sl.v716, kernelRun0_A.sl.HS0_34, kernelRun0_A.sl.v708, kernelRun0_A.sl.HS0_33, kernelRun0_A.sl.HS0_32, kernelRun0_A.sl.r_9, kernelRun0_A.sl.r_8, kernelRun0_A.sl.r_1, kernelRun0_A.sl.r_2, kernelRun0_A.sl.r_3, kernelRun0_A.sl.r_4, kernelRun0_A.sl.r_5, kernelRun0_A.sl.r_25, kernelRun0_A.sl.r_6, kernelRun0_A.sl.r_7, kernelRun0_A.sl.v392, kernelRun0_A.sl.HS0_31, kernelRun0_A.sl.v384, kernelRun0_A.sl.HS0_30, kernelRun0_A.sl.r_28, kernelRun0_A.sl.v376, kernelRun0_A.sl.HS0_29, kernelRun0_A.sl.v368, kernelRun0_A.sl.HS0_28, kernelRun0_A.sl.v360, kernelRun0_A.sl.HS0_27, kernelRun0_A.sl.v352, kernelRun0_A.sl.HS0_26, kernelRun0_A.sl.r_27, kernelRun0_A.sl.v344, kernelRun0_A.sl.HS0_25, kernelRun0_A.sl.HS0_24, kernelRun0_A.sl.r_21, kernelRun0_A.sl.v316, kernelRun0_A.sl.HS0_23, kernelRun0_A.sl.r_23, kernelRun0_A.sl.v308, kernelRun0_A.sl.HS0_22, kernelRun0_A.sl.v300, kernelRun0_A.sl.HS0_21, kernelRun0_A.sl.v292, kernelRun0_A.sl.HS0_20, kernelRun0_A.sl.v284, kernelRun0_A.sl.HS0_19, kernelRun0_A.sl.v276, kernelRun0_A.sl.HS0_18, kernelRun0_A.sl.v268, kernelRun0_A.sl.HS0_17, kernelRun0_A.sl.HS0_16, kernelRun0_A.sl.r_16, kernelRun0_A.sl.v240, kernelRun0_A.sl.HS0_15, kernelRun0_A.sl.r_19, kernelRun0_A.sl.v232, kernelRun0_A.sl.HS0_14, kernelRun0_A.sl.v224, kernelRun0_A.sl.HS0_13, kernelRun0_A.sl.v216, kernelRun0_A.sl.HS0_12, kernelRun0_A.sl.v208, kernelRun0_A.sl.HS0_11, kernelRun0_A.sl.r_18, kernelRun0_A.sl.v200, kernelRun0_A.sl.HS0_10, kernelRun0_A.sl.v192, kernelRun0_A.sl.HS0_9, kernelRun0_A.sl.HS0_8, kernelRun0_A.sl.r_14, kernelRun0_A.sl.r_10, kernelRun0_A.sl.v164, kernelRun0_A.sl.HS0_7, kernelRun0_A.sl.v156, kernelRun0_A.sl.HS0_6, kernelRun0_A.sl.v148, kernelRun0_A.sl.HS0_5, kernelRun0_A.sl.v140, kernelRun0_A.sl.HS0_4, kernelRun0_A.sl.r_12, kernelRun0_A.sl.r_13, kernelRun0_A.sl.v132, kernelRun0_A.sl.HS0_3, kernelRun0_A.sl.v124, kernelRun0_A.sl.HS0_2, kernelRun0_A.sl.v116, kernelRun0_A.sl.HS0_1, k0_pay116, k0_pay105, k0_pay104, k0_pay115, k0_pay114, k0_pay113, k0_pay112, k0_pay111, k0_pay110, k0_pay109, k0_pay108, k0_pay107, k0_pay106, k0_pay102, k0_pay92, k0_pay101, k0_pay100, k0_pay99, k0_pay98, k0_pay97, k0_pay96, k0_pay95, k0_pay94, k0_pay63, k0_pay12, k0_pay11, k0_pay8, k0_pay3, k0_pay4, k0_pay5, k0_pay2, k0_pay6, k0_pay7, k0_pay52, k0_pay9, k0_pay10, k0_pay62, k0_pay61, k0_pay60, k0_pay59, k0_pay58, k0_pay57, k0_pay56, k0_pay55, k0_pay54, k0_pay50, k0_pay40, k0_pay49, k0_pay48, k0_pay47, k0_pay46, k0_pay45, k0_pay44, k0_pay43, k0_pay42, k0_pay38, k0_pay27, k0_pay37, k0_pay36, k0_pay35, k0_pay34, k0_pay33, k0_pay32, k0_pay31, k0_pay30, k0_pay29, k0_pay25, k0_pay24, k0_pay13, k0_pay23, k0_pay22, k0_pay21, k0_pay20, k0_pay18, k0_pay19, k0_pay17, k0_pay16, k0_pay15, num, kAtt, kAcc, kKeep, kPart, kDot, kDen, kExp, kTop, kScores, kChunk, word_r_52,
    View.readCov_unit_lit', View.readCov_cons_unit_lit', View.readAt_eq_ld, Memref.IsWhole.read_unread]

/-- Layer 2: attention of chunk 2. -/
theorem word_r_67 : (kernelRun0_A.sl.r_67 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11)
    = kAtt (kChunk (kernelRun0_A.sl.r_49 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) 2) (kernelRun0_A.sl.r_50 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (kernelRun0_A.sl.r_51 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) := by
  simp (disch := decide) only [kernelRun0_A.sl.r_67, kernelRun0_A.sl.r_64, kernelRun0_A.sl.v913, kernelRun0_A.sl.HS0_56, kernelRun0_A.sl.r_63, kernelRun0_A.sl.v908, kernelRun0_A.sl.HS0_55, kernelRun0_A.sl.r_66, kernelRun0_A.sl.v900, kernelRun0_A.sl.HS0_54, kernelRun0_A.sl.v892, kernelRun0_A.sl.HS0_53, kernelRun0_A.sl.v884, kernelRun0_A.sl.HS0_52, kernelRun0_A.sl.v876, kernelRun0_A.sl.HS0_51, kernelRun0_A.sl.r_65, kernelRun0_A.sl.v868, kernelRun0_A.sl.HS0_50, kernelRun0_A.sl.v860, kernelRun0_A.sl.HS0_49, kernelRun0_A.sl.HS0_48, kernelRun0_A.sl.r_61, kernelRun0_A.sl.r_58, kernelRun0_A.sl.v832, kernelRun0_A.sl.HS0_47, kernelRun0_A.sl.v824, kernelRun0_A.sl.HS0_46, kernelRun0_A.sl.v816, kernelRun0_A.sl.HS0_45, kernelRun0_A.sl.v808, kernelRun0_A.sl.HS0_44, kernelRun0_A.sl.r_60, kernelRun0_A.sl.v800, kernelRun0_A.sl.HS0_43, kernelRun0_A.sl.v792, kernelRun0_A.sl.HS0_42, kernelRun0_A.sl.v784, kernelRun0_A.sl.HS0_41, kernelRun0_A.sl.HS0_40, kernelRun0_A.sl.r_56, kernelRun0_A.sl.r_53, kernelRun0_A.sl.cst_289, kernelRun0_A.sl.v756, kernelRun0_A.sl.HS0_39, kernelRun0_A.sl.v748, kernelRun0_A.sl.HS0_38, kernelRun0_A.sl.v740, kernelRun0_A.sl.HS0_37, kernelRun0_A.sl.v732, kernelRun0_A.sl.HS0_36, kernelRun0_A.sl.r_55, kernelRun0_A.sl.v724, kernelRun0_A.sl.HS0_35, kernelRun0_A.sl.v716, kernelRun0_A.sl.HS0_34, kernelRun0_A.sl.v708, kernelRun0_A.sl.HS0_33, kernelRun0_A.sl.HS0_32, kernelRun0_A.sl.r_9, kernelRun0_A.sl.r_8, kernelRun0_A.sl.r_1, kernelRun0_A.sl.r_2, kernelRun0_A.sl.r_3, kernelRun0_A.sl.r_4, kernelRun0_A.sl.r_5, kernelRun0_A.sl.r_25, kernelRun0_A.sl.r_6, kernelRun0_A.sl.r_7, kernelRun0_A.sl.v392, kernelRun0_A.sl.HS0_31, kernelRun0_A.sl.v384, kernelRun0_A.sl.HS0_30, kernelRun0_A.sl.r_28, kernelRun0_A.sl.v376, kernelRun0_A.sl.HS0_29, kernelRun0_A.sl.v368, kernelRun0_A.sl.HS0_28, kernelRun0_A.sl.v360, kernelRun0_A.sl.HS0_27, kernelRun0_A.sl.v352, kernelRun0_A.sl.HS0_26, kernelRun0_A.sl.r_27, kernelRun0_A.sl.v344, kernelRun0_A.sl.HS0_25, kernelRun0_A.sl.HS0_24, kernelRun0_A.sl.r_21, kernelRun0_A.sl.v316, kernelRun0_A.sl.HS0_23, kernelRun0_A.sl.r_23, kernelRun0_A.sl.v308, kernelRun0_A.sl.HS0_22, kernelRun0_A.sl.v300, kernelRun0_A.sl.HS0_21, kernelRun0_A.sl.v292, kernelRun0_A.sl.HS0_20, kernelRun0_A.sl.v284, kernelRun0_A.sl.HS0_19, kernelRun0_A.sl.v276, kernelRun0_A.sl.HS0_18, kernelRun0_A.sl.v268, kernelRun0_A.sl.HS0_17, kernelRun0_A.sl.HS0_16, kernelRun0_A.sl.r_16, kernelRun0_A.sl.v240, kernelRun0_A.sl.HS0_15, kernelRun0_A.sl.r_19, kernelRun0_A.sl.v232, kernelRun0_A.sl.HS0_14, kernelRun0_A.sl.v224, kernelRun0_A.sl.HS0_13, kernelRun0_A.sl.v216, kernelRun0_A.sl.HS0_12, kernelRun0_A.sl.v208, kernelRun0_A.sl.HS0_11, kernelRun0_A.sl.r_18, kernelRun0_A.sl.v200, kernelRun0_A.sl.HS0_10, kernelRun0_A.sl.v192, kernelRun0_A.sl.HS0_9, kernelRun0_A.sl.HS0_8, kernelRun0_A.sl.r_14, kernelRun0_A.sl.r_10, kernelRun0_A.sl.v164, kernelRun0_A.sl.HS0_7, kernelRun0_A.sl.v156, kernelRun0_A.sl.HS0_6, kernelRun0_A.sl.v148, kernelRun0_A.sl.HS0_5, kernelRun0_A.sl.v140, kernelRun0_A.sl.HS0_4, kernelRun0_A.sl.r_12, kernelRun0_A.sl.r_13, kernelRun0_A.sl.v132, kernelRun0_A.sl.HS0_3, kernelRun0_A.sl.v124, kernelRun0_A.sl.HS0_2, kernelRun0_A.sl.v116, kernelRun0_A.sl.HS0_1, k0_pay129, k0_pay118, k0_pay117, k0_pay128, k0_pay127, k0_pay126, k0_pay125, k0_pay124, k0_pay123, k0_pay122, k0_pay121, k0_pay120, k0_pay119, k0_pay115, k0_pay114, k0_pay104, k0_pay113, k0_pay112, k0_pay111, k0_pay110, k0_pay109, k0_pay108, k0_pay107, k0_pay106, k0_pay102, k0_pay92, k0_pay101, k0_pay100, k0_pay99, k0_pay98, k0_pay97, k0_pay96, k0_pay95, k0_pay94, k0_pay63, k0_pay12, k0_pay11, k0_pay8, k0_pay3, k0_pay4, k0_pay5, k0_pay2, k0_pay6, k0_pay7, k0_pay52, k0_pay9, k0_pay10, k0_pay62, k0_pay61, k0_pay60, k0_pay59, k0_pay58, k0_pay57, k0_pay56, k0_pay55, k0_pay54, k0_pay50, k0_pay40, k0_pay49, k0_pay48, k0_pay47, k0_pay46, k0_pay45, k0_pay44, k0_pay43, k0_pay42, k0_pay38, k0_pay27, k0_pay37, k0_pay36, k0_pay35, k0_pay34, k0_pay33, k0_pay32, k0_pay31, k0_pay30, k0_pay29, k0_pay25, k0_pay24, k0_pay13, k0_pay23, k0_pay22, k0_pay21, k0_pay20, k0_pay18, k0_pay19, k0_pay17, k0_pay16, k0_pay15, num, kAtt, kAcc, kKeep, kPart, kDot, kDen, kExp, kTop, kScores, kChunk, word_r_52,
    View.readCov_unit_lit', View.readCov_cons_unit_lit', View.readAt_eq_ld, Memref.IsWhole.read_unread]

/-- Layer 2: the sums of the last chunk. -/
theorem word_r_69 : (kernelRun0_A.sl.r_69 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11)
    = kDen (kExp (kScores (kChunk (kernelRun0_A.sl.r_49 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) 3) (kernelRun0_A.sl.r_50 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11))) := by
  simp (disch := decide) only [kernelRun0_A.sl.r_69, k0_pay131, k0_pay130, num, kAtt, kAcc, kKeep, kPart, kDot, kDen, kExp, kTop, kScores, kChunk, word_r_52,
    View.readCov_unit_lit', View.readCov_cons_unit_lit', View.readAt_eq_ld, Memref.IsWhole.read_unread]

/-- Layer 2: the accumulator of the last chunk. -/
theorem word_v989 : (kernelRun0_A.sl.v989 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11)
    = kAcc (kExp (kScores (kChunk (kernelRun0_A.sl.r_49 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) 3) (kernelRun0_A.sl.r_50 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11))) (kernelRun0_A.sl.r_51 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) := by
  simp (disch := decide) only [kernelRun0_A.sl.v989, kernelRun0_A.sl.HS0_64, kernelRun0_A.sl.r_68, kernelRun0_A.sl.v984, kernelRun0_A.sl.HS0_63, kernelRun0_A.sl.r_71, kernelRun0_A.sl.r_72, kernelRun0_A.sl.cst_453, kernelRun0_A.sl.v976, kernelRun0_A.sl.HS0_62, kernelRun0_A.sl.v968, kernelRun0_A.sl.HS0_61, kernelRun0_A.sl.v960, kernelRun0_A.sl.HS0_60, kernelRun0_A.sl.v952, kernelRun0_A.sl.HS0_59, kernelRun0_A.sl.v944, kernelRun0_A.sl.HS0_58, kernelRun0_A.sl.r_70, kernelRun0_A.sl.v936, kernelRun0_A.sl.HS0_57, kernelRun0_A.sl.HS0_56, kernelRun0_A.sl.r_63, kernelRun0_A.sl.v908, kernelRun0_A.sl.HS0_55, kernelRun0_A.sl.r_66, kernelRun0_A.sl.v900, kernelRun0_A.sl.HS0_54, kernelRun0_A.sl.v892, kernelRun0_A.sl.HS0_53, kernelRun0_A.sl.v884, kernelRun0_A.sl.HS0_52, kernelRun0_A.sl.v876, kernelRun0_A.sl.HS0_51, kernelRun0_A.sl.r_65, kernelRun0_A.sl.v868, kernelRun0_A.sl.HS0_50, kernelRun0_A.sl.v860, kernelRun0_A.sl.HS0_49, kernelRun0_A.sl.HS0_48, kernelRun0_A.sl.r_61, kernelRun0_A.sl.r_58, kernelRun0_A.sl.v832, kernelRun0_A.sl.HS0_47, kernelRun0_A.sl.v824, kernelRun0_A.sl.HS0_46, kernelRun0_A.sl.v816, kernelRun0_A.sl.HS0_45, kernelRun0_A.sl.v808, kernelRun0_A.sl.HS0_44, kernelRun0_A.sl.r_60, kernelRun0_A.sl.v800, kernelRun0_A.sl.HS0_43, kernelRun0_A.sl.v792, kernelRun0_A.sl.HS0_42, kernelRun0_A.sl.v784, kernelRun0_A.sl.HS0_41, kernelRun0_A.sl.HS0_40, kernelRun0_A.sl.r_56, kernelRun0_A.sl.r_53, kernelRun0_A.sl.cst_289, kernelRun0_A.sl.v756, kernelRun0_A.sl.HS0_39, kernelRun0_A.sl.v748, kernelRun0_A.sl.HS0_38, kernelRun0_A.sl.v740, kernelRun0_A.sl.HS0_37, kernelRun0_A.sl.v732, kernelRun0_A.sl.HS0_36, kernelRun0_A.sl.r_55, kernelRun0_A.sl.v724, kernelRun0_A.sl.HS0_35, kernelRun0_A.sl.v716, kernelRun0_A.sl.HS0_34, kernelRun0_A.sl.v708, kernelRun0_A.sl.HS0_33, kernelRun0_A.sl.HS0_32, kernelRun0_A.sl.r_9, kernelRun0_A.sl.r_8, kernelRun0_A.sl.r_1, kernelRun0_A.sl.r_2, kernelRun0_A.sl.r_3, kernelRun0_A.sl.r_4, kernelRun0_A.sl.r_5, kernelRun0_A.sl.r_25, kernelRun0_A.sl.r_6, kernelRun0_A.sl.r_7, kernelRun0_A.sl.v392, kernelRun0_A.sl.HS0_31, kernelRun0_A.sl.v384, kernelRun0_A.sl.HS0_30, kernelRun0_A.sl.r_28, kernelRun0_A.sl.v376, kernelRun0_A.sl.HS0_29, kernelRun0_A.sl.v368, kernelRun0_A.sl.HS0_28, kernelRun0_A.sl.v360, kernelRun0_A.sl.HS0_27, kernelRun0_A.sl.v352, kernelRun0_A.sl.HS0_26, kernelRun0_A.sl.r_27, kernelRun0_A.sl.v344, kernelRun0_A.sl.HS0_25, kernelRun0_A.sl.HS0_24, kernelRun0_A.sl.r_21, kernelRun0_A.sl.v316, kernelRun0_A.sl.HS0_23, kernelRun0_A.sl.r_23, kernelRun0_A.sl.v308, kernelRun0_A.sl.HS0_22, kernelRun0_A.sl.v300, kernelRun0_A.sl.HS0_21, kernelRun0_A.sl.v292, kernelRun0_A.sl.HS0_20, kernelRun0_A.sl.v284, kernelRun0_A.sl.HS0_19, kernelRun0_A.sl.v276, kernelRun0_A.sl.HS0_18, kernelRun0_A.sl.v268, kernelRun0_A.sl.HS0_17, kernelRun0_A.sl.HS0_16, kernelRun0_A.sl.r_16, kernelRun0_A.sl.v240, kernelRun0_A.sl.HS0_15, kernelRun0_A.sl.r_19, kernelRun0_A.sl.v232, kernelRun0_A.sl.HS0_14, kernelRun0_A.sl.v224, kernelRun0_A.sl.HS0_13, kernelRun0_A.sl.v216, kernelRun0_A.sl.HS0_12, kernelRun0_A.sl.v208, kernelRun0_A.sl.HS0_11, kernelRun0_A.sl.r_18, kernelRun0_A.sl.v200, kernelRun0_A.sl.HS0_10, kernelRun0_A.sl.v192, kernelRun0_A.sl.HS0_9, kernelRun0_A.sl.HS0_8, kernelRun0_A.sl.r_14, kernelRun0_A.sl.r_10, kernelRun0_A.sl.v164, kernelRun0_A.sl.HS0_7, kernelRun0_A.sl.v156, kernelRun0_A.sl.HS0_6, kernelRun0_A.sl.v148, kernelRun0_A.sl.HS0_5, kernelRun0_A.sl.v140, kernelRun0_A.sl.HS0_4, kernelRun0_A.sl.r_12, kernelRun0_A.sl.r_13, kernelRun0_A.sl.v132, kernelRun0_A.sl.HS0_3, kernelRun0_A.sl.v124, kernelRun0_A.sl.HS0_2, kernelRun0_A.sl.v116, kernelRun0_A.sl.HS0_1, k0_pay141, k0_pay130, k0_pay140, k0_pay138, k0_pay139, k0_pay137, k0_pay136, k0_pay135, k0_pay134, k0_pay133, k0_pay132, k0_pay128, k0_pay117, k0_pay127, k0_pay126, k0_pay125, k0_pay124, k0_pay123, k0_pay122, k0_pay121, k0_pay120, k0_pay119, k0_pay115, k0_pay114, k0_pay104, k0_pay113, k0_pay112, k0_pay111, k0_pay110, k0_pay109, k0_pay108, k0_pay107, k0_pay106, k0_pay102, k0_pay92, k0_pay101, k0_pay100, k0_pay99, k0_pay98, k0_pay97, k0_pay96, k0_pay95, k0_pay94, k0_pay63, k0_pay12, k0_pay11, k0_pay8, k0_pay3, k0_pay4, k0_pay5, k0_pay2, k0_pay6, k0_pay7, k0_pay52, k0_pay9, k0_pay10, k0_pay62, k0_pay61, k0_pay60, k0_pay59, k0_pay58, k0_pay57, k0_pay56, k0_pay55, k0_pay54, k0_pay50, k0_pay40, k0_pay49, k0_pay48, k0_pay47, k0_pay46, k0_pay45, k0_pay44, k0_pay43, k0_pay42, k0_pay38, k0_pay27, k0_pay37, k0_pay36, k0_pay35, k0_pay34, k0_pay33, k0_pay32, k0_pay31, k0_pay30, k0_pay29, k0_pay25, k0_pay24, k0_pay13, k0_pay23, k0_pay22, k0_pay21, k0_pay20, k0_pay18, k0_pay19, k0_pay17, k0_pay16, k0_pay15, num, kAtt, kAcc, kKeep, kPart, kDot, kDen, kExp, kTop, kScores, kChunk, word_r_52,
    View.readCov_unit_lit', View.readCov_cons_unit_lit', View.readAt_eq_ld, Memref.IsWhole.read_unread]

/-- Layer 2: the rows after attention. -/
theorem word_r_73 : (kernelRun0_A.sl.r_73 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11)
    = kMid (kernelRun0_A.sl.r_43 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (kernelRun0_A.sl.r_49 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (kernelRun0_A.sl.r_50 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (kernelRun0_A.sl.r_51 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (pMat x5 1) (pRow x6 1) := by
  simp only [kernelRun0_A.sl.r_73, View.readAt_eq_ld, Memref.IsWhole.read_unread]
  rw [word_r_57, word_r_62, word_r_67, word_r_69, word_v989]
  exact pay142_eq (kernelRun0_A.sl.r_43 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (kernelRun0_A.sl.r_49 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (kernelRun0_A.sl.r_50 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (kernelRun0_A.sl.r_51 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (pRow x6 1) (pMat x5 1)

/-- Layer 2: the rows normalized before the experts. -/
theorem word_r_79 : (kernelRun0_A.sl.r_79 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11)
    = kLN (kernelRun0_A.sl.r_73 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (pRow x7 1) (pRow x8 1) := by
  simp only [kernelRun0_A.sl.r_79, kernelRun0_A.sl.r_78, kernelRun0_A.sl.r_73, kernelRun0_A.sl.r_74, kernelRun0_A.sl.r_75, kernelRun0_A.sl.r_76, kernelRun0_A.sl.r_77, View.readAt_eq_ld, Memref.IsWhole.read_unread]
  exact pay148_eq _ (pRow x7 1) (pRow x8 1) _ _ _ _ _ _ _

/-- Layer 2: the weights of the experts. -/
theorem word_r_84 : (kernelRun0_A.sl.r_84 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11)
    = kWeights (kProbs (kLogits (kernelRun0_A.sl.r_79 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (pGate x9 1))) := by
  simp only [kernelRun0_A.sl.r_84, kernelRun0_A.sl.r_80, kernelRun0_A.sl.r_81, kernelRun0_A.sl.r_82, kernelRun0_A.sl.r_83, kernelRun0_A.sl.r_79, View.readAt_eq_ld, Memref.IsWhole.read_unread]
  exact pay156_eq (pGate x9 1) _ _

/-- The last linear map of the rows after layer 2. -/
theorem word_r_87 : (kernelRun0_A.sl.r_87 (F := Ideal) c arg1 harg1 arg2 harg2 arg3 harg3 arg4 harg4 arg5 harg5 arg6 harg6 arg7 harg7 arg8 harg8 arg9 harg9 arg10 harg10 arg11 harg11 arg12 harg12 arg13 harg13 arg16 x0 x1 x2 x3 x4 x5 x6 x7 x8 x9 x10 x11 x12)
    = kHead (kMix (kernelRun0_A.sl.r_73 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (kernelRun0_A.sl.r_79 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (kernelRun0_A.sl.r_84 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (pUp x10 1) (pDown x11 1)) (pHead x12) := by
  simp only [kernelRun0_A.sl.r_87, kernelRun0_A.sl.r_84, kernelRun0_A.sl.r_85, kernelRun0_A.sl.r_86, View.readAt_eq_ld, Memref.IsWhole.read_unread]
  exact pay159_eq (kernelRun0_A.sl.r_73 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (kernelRun0_A.sl.r_79 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) (pUp x10 1) (pDown x11 1) (pHead x12) _ _ _ _

/-- The bias of the last map. -/
theorem word_r_88 : (kernelRun0_A.sl.r_88 (F := Ideal) c arg14 harg14 x13)
    = View.ld (Val := Elt Ideal) (e' := .f32) x13 (Rect.unit (s := S1x100) ![0, 0] S1x100.size inb_S1x100_S1x100_0_0) := by
  simp only [kernelRun0_A.sl.r_88, View.readAt_eq_ld, Memref.IsWhole.read_unread]

end Cert.KernStages

end
-- ==== Proof.Ref.lean ====
module

public import proofs.«01_k».proof.Proof.Gen.ReferenceIdeal.Read
public import proofs.«01_k».proof.Proof.Tops
public import Idealize.ShloMosaic.Lib.Claim
public import Idealize.ShloMosaic.Lib.Pointwise
public import Idealize.ShloMosaic.Lib.WordCmp
public import Idealize.ShloMosaic.Lib.Pipeline.ValueKit

@[expose] public section

set_option maxRecDepth 16384

noncomputable section

/-! The reference's layer in stages, each read at an index. -/

namespace Cert.RefStages

open Idealize.ShloMosaic Idealize.ShloMosaic.TcCoe Idealize.SL.Sem Idealize.ShloMosaic.StableHlo
open Cert.ReferenceIdeal Cert.ReferenceIdeal.Gen

/-- An array of extended reals of shape `s`. -/
abbrev V (s : Shape) := FVec Ideal s .f32

/-- A number in every place of the scalar shape. -/
abbrev num (b : BitVec 32) : V S_ := constant S_ .f32 b

/-- The mean of each row. -/
def rMean (x : V S4x2048x64) : V S4x2048x1 :=
  Host.divf (broadcastInDim S4x2048x1 ![0, 1] bcast_S4x2048_S4x2048x1_0_1
    (Host.reduceAdd x (num 0x00000000#32) reducesTo_S4x2048x64_S4x2048_d2 h_S_))
    (broadcastInDim S4x2048x1 ![] bcast_S_S4x2048x1 (num 0x42800000#32))

/-- One number of each row in every place of it. -/
def rAlong (m : V S4x2048x1) : V S4x2048x64 :=
  broadcastInDim S4x2048x64 ![0, 1, 2] bcast_S4x2048x1_S4x2048x64_0_1_2 m

/-- A vector in every row. -/
def rVec (g : V S64) : V S4x2048x64 :=
  broadcastInDim S4x2048x64 ![0, 1, 2] bcast_S1x1x64_S4x2048x64_0_1_2 (broadcastInDim S1x1x64 ![2] bcast_S64_S1x1x64_2 g)

/-- How many entries a variance divides by: 64 less 0. -/
def rCount : V S_ := subf (num 0x42800000#32) (sitofp .f32 (constantI S_ 32 0#32))

/-- The variance of each row. -/
def rVar (x : V S4x2048x64) : V S4x2048x1 :=
  select (broadcastInDim S4x2048x1 ![] bcast_S_S4x2048x1 (cmpf .ogt rCount (num 0x00000000#32)))
    (Host.divf (broadcastInDim S4x2048x1 ![0, 1] bcast_S4x2048_S4x2048x1_0_1
      (Host.reduceAdd (mulf (subf x (rAlong (rMean x))) (subf x (rAlong (rMean x)))) (num 0x00000000#32)
        reducesTo_S4x2048x64_S4x2048_d2 h_S_))
      (broadcastInDim S4x2048x1 ![] bcast_S_S4x2048x1 rCount))
    (broadcastInDim S4x2048x1 ![] bcast_S_S4x2048x1 (id (num 0x7FC00000#32)))

/-- The normalization of each row. -/
def rLN (x : V S4x2048x64) (g b : V S64) : V S4x2048x64 :=
  addf (mulf (Host.divf (subf x (rAlong (rMean x)))
    (rAlong (Host.sqrt (addf (rVar x) (broadcastInDim S4x2048x1 ![] bcast_S_S4x2048x1 (num 0x3727C5AC#32)))))) (rVec g)) (rVec b)

/-- A linear map with a bias on each row. -/
def rLin (x : V S4x2048x64) (W : V S64x64) (b : V S64) : V S4x2048x64 :=
  addf (Host.dotGeneral dot_S4x2048x64_S64x64_S4x2048x64_2_0_01_1_n_n none x
    (transpose S64x64 [1, 0] W transposes_S64x64_S64x64_1_0)) (rVec b)

/-- The scores of every row against every row. -/
def rScores (q k : V S4x2048x64) : V S4x2048x2048 :=
  Host.divf (Host.dotGeneral dot_S4x2048x64_S4x2048x64_S4x2048x2048_2_2_1_1_0_0 none q k)
    (broadcastInDim S4x2048x2048 ![] bcast_S_S4x2048x2048 (Host.sqrt (num 0x42800000#32)))

/-- The greatest score of each row. -/
def rTop (s : V S4x2048x2048) : V S4x2048 :=
  maximumf (broadcastInDim S4x2048 ![] bcast_S_S4x2048 (num 0xFF800000#32))
    (Host.reduce FloatOps.maximumf s (num 0xFF800000#32) reducesTo_S4x2048x2048_S4x2048_d2 h_S_)

/-- The exponentials of the scores less the greatest of their row. -/
def rExp (s : V S4x2048x2048) : V S4x2048x2048 :=
  Host.exp (subf s (broadcastInDim S4x2048x2048 ![0, 1, 2] bcast_S4x2048x1_S4x2048x2048_0_1_2
    (broadcastInDim S4x2048x1 ![0, 1] bcast_S4x2048_S4x2048x1_0_1 (rTop s))))

/-- The softmax of each row of scores. -/
def rSoft (s : V S4x2048x2048) : V S4x2048x2048 :=
  Host.divf (rExp s) (broadcastInDim S4x2048x2048 ![0, 1, 2] bcast_S4x2048x1_S4x2048x2048_0_1_2
    (broadcastInDim S4x2048x1 ![0, 1] bcast_S4x2048_S4x2048x1_0_1
      (Host.reduceAdd (rExp s) (num 0x00000000#32) reducesTo_S4x2048x2048_S4x2048_d2 h_S_)))

/-- Attention: the softmax of the scores times the values. -/
def rAtt (q k v : V S4x2048x64) : V S4x2048x64 :=
  Host.dotGeneral dot_S4x2048x2048_S4x2048x64_S4x2048x64_2_1_1_2_0_0 none (rSoft (rScores q k)) v

/-- Rows `o` to `o + 64` of the three projections together. -/
def rRows (W : V S192x64) : Fin 3 → V S64x64
  | 0 => extractStridedSlice S64x64 ![0, 0] W slices_S192x64_S64x64_0_0
  | 1 => extractStridedSlice S64x64 ![64, 0] W slices_S192x64_S64x64_64_0
  | 2 => extractStridedSlice S64x64 ![128, 0] W slices_S192x64_S64x64_128_0

/-- Their biases. -/
def rBias (b : V S192) : Fin 3 → V S64
  | 0 => extractStridedSlice S64 ![0] b slices_S192_S64_0
  | 1 => extractStridedSlice S64 ![64] b slices_S192_S64_64
  | 2 => extractStridedSlice S64 ![128] b slices_S192_S64_128

/-- The rows after attention. -/
def rMid (x : V S4x2048x64) (g b : V S64) (W : V S192x64) (c : V S192) (O : V S64x64) (o : V S64) : V S4x2048x64 :=
  addf x (rLin (rAtt (rLin (rLN x g b) (rRows W 0) (rBias c 0)) (rLin (rLN x g b) (rRows W 1) (rBias c 1))
    (rLin (rLN x g b) (rRows W 2) (rBias c 2))) O o)

/-- The gate's logits of each row. -/
def rLogits (h : V S8192x64) (G : V S4x64) : V S8192x4 :=
  Host.dotGeneral dot_S8192x64_S64x4_S8192x4_1_0_0_1_n_n none h (transpose S64x4 [1, 0] G transposes_S4x64_S64x4_1_0)

/-- The exponentials of the logits less the greatest of their row. -/
def rGateExp (l : V S8192x4) : V S8192x4 :=
  Host.exp (subf l (broadcastInDim S8192x4 ![0, 1] bcast_S8192x1_S8192x4_0_1
    (broadcastInDim S8192x1 ![0] bcast_S8192_S8192x1_0
      (maximumf (broadcastInDim S8192 ![] bcast_S_S8192 (num 0xFF800000#32))
        (Host.reduce FloatOps.maximumf l (num 0xFF800000#32) reducesTo_S8192x4_S8192_d1 h_S_)))))

/-- The softmax of each row of logits. -/
def rProbs (l : V S8192x4) : V S8192x4 :=
  Host.divf (rGateExp l) (broadcastInDim S8192x4 ![0, 1] bcast_S8192x1_S8192x4_0_1
    (broadcastInDim S8192x1 ![0] bcast_S8192_S8192x1_0
      (Host.reduceAdd (rGateExp l) (num 0x00000000#32) reducesTo_S8192x4_S8192_d1 h_S_)))

/-- The two greatest weights of each row and their experts. -/
def rTwo (p : V S8192x4) := Host.topK S8192x2 1 (FloatOps.cmpfTotal .gt) p sliceFits_S8192x4_S8192x2

/-- The two weights of each row over their sum. -/
def rPair (v : V S8192x2) : V S8192x2 :=
  Host.divf v (broadcastInDim S8192x2 ![0, 1] bcast_S8192x1_S8192x2_0_1
    (broadcastInDim S8192x1 ![0] bcast_S8192_S8192x1_0
      (Host.reduceAdd v (num 0x00000000#32) reducesTo_S8192x2_S8192_d1 h_S_)))

/-- The experts' first layers. -/
def rUp (h : V S8192x64) (U : V S4x256x64) : V S4x8192x256 :=
  transpose S4x8192x256 [0, 2, 1] (Host.dotGeneral dot_S4x256x64_S8192x64_S4x256x8192_2_1_01_0_n_n none U h)
    transposes_S4x256x8192_S4x8192x256_0_2_1

/-- The gate of the hidden layers. -/
def rSilu (z : V S4x8192x128) : V S4x8192x128 :=
  mulf z (Host.divf (broadcastInDim S4x8192x128 ![] bcast_S_S4x8192x128 (num 0x3F800000#32))
    (addf (broadcastInDim S4x8192x128 ![] bcast_S_S4x8192x128 (num 0x3F800000#32)) (Host.exp (Host.negf z))))

/-- The experts' outputs at every row. -/
def rExperts (h : V S8192x64) (U : V S4x256x64) (D : V S4x64x128) : V S4x8192x64 :=
  Host.dotGeneral dot_S4x8192x128_S4x64x128_S4x8192x64_2_2_1_1_0_0 none
    (mulf (rSilu (extractStridedSlice S4x8192x128 ![0, 0, 0] (rUp h U) slices_S4x8192x256_S4x8192x128_0_0_0))
      (extractStridedSlice S4x8192x128 ![0, 0, 128] (rUp h U) slices_S4x8192x256_S4x8192x128_0_0_128)) D

/-- A row index of an expert, wrapped when negative. -/
def rWrapE (i : IVec S8192 32) : IVec S8192 32 :=
  select (cmpi .slt i (broadcastInDim S8192 ![] bcast_S_S8192 (constantI S_ 32 0#32)))
    (addi i (broadcastInDim S8192 ![] bcast_S_S8192 (constantI S_ 32 4#32))) i

/-- A row number, wrapped when negative. -/
def rWrapR (i : IVec S8192 32) : IVec S8192 32 :=
  select (cmpi .slt i (broadcastInDim S8192 ![] bcast_S_S8192 (constantI S_ 32 0#32)))
    (addi i (broadcastInDim S8192 ![] bcast_S_S8192 (constantI S_ 32 8192#32))) i

/-- The pairs of an expert and a row. -/
def rAt (i : IVec S8192 32) : IVec S8192x2 32 :=
  concatenate S8192x2 1 [⟨S8192x1, broadcastInDim S8192x1 ![0] bcast_S8192_S8192x1_0 (rWrapE i)⟩,
    ⟨S8192x1, broadcastInDim S8192x1 ![0] bcast_S8192_S8192x1_0 (rWrapR (iotaInDim S8192 32 0))⟩]
    concatenates_S8192x1_S8192x1_S8192x2_d1

/-- A weight of each row times the output of its expert there. -/
def rTerm (w : V S8192) (i : IVec S8192 32) (o : V S4x8192x64) : V S8192x64 :=
  mulf (broadcastInDim S8192x64 ![0, 1] bcast_S8192x1_S8192x64_0_1 (broadcastInDim S8192x1 ![0] bcast_S8192_S8192x1_0 w))
    (Host.gather gather_S4x8192x64_S8192x2_S8192x64_1_01_n_n_01_1_1164 o (rAt i))

/-- Column `c` of two. -/
def rCol {α : Type} (v : S8192x2.Idx → α) : Fin 2 → S8192.Idx → α
  | 0 => shapeCast _ (extractStridedSlice S8192x1 ![0, 0] v slices_S8192x2_S8192x1_0_0) shapeCasts_S8192x1_S8192
  | 1 => shapeCast _ (extractStridedSlice S8192x1 ![0, 1] v slices_S8192x2_S8192x1_0_1) shapeCasts_S8192x1_S8192

/-- The outputs of the two chosen experts of each row, weighted. -/
def rMix (p : V S8192x4) (o : V S4x8192x64) : V S8192x64 :=
  addf (addf (broadcastInDim S8192x64 ![] bcast_S_S8192x64 (num 0x00000000#32))
    (rTerm (rCol (rPair (rTwo p).1) 0) (rCol (rTwo p).2 0) o))
    (rTerm (rCol (rPair (rTwo p).1) 1) (rCol (rTwo p).2 1) o)

/-- The rows after the experts. -/
def rFfn (y : V S4x2048x64) (g b : V S64) (G : V S4x64) (U : V S4x256x64) (D : V S4x64x128) : V S4x2048x64 :=
  addf y (shapeCast _ (rMix (rProbs (rLogits (shapeCast _ (rLN y g b) shapeCasts_S4x2048x64_S8192x64) G))
    (rExperts (shapeCast _ (rLN y g b) shapeCasts_S4x2048x64_S8192x64) U D)) shapeCasts_S8192x64_S4x2048x64)

/-- The last linear map. -/
def rHead (x : V S4x2048x64) (W : V S100x64) (b : V S100) : V S4x2048x100 :=
  addf (Host.dotGeneral dot_S4x2048x64_S64x100_S4x2048x100_2_0_01_1_n_n none x
    (transpose S64x100 [1, 0] W transposes_S100x64_S64x100_1_0))
    (broadcastInDim S4x2048x100 ![0, 1, 2] bcast_S1x1x100_S4x2048x100_0_1_2 (broadcastInDim S1x1x100 ![2] bcast_S100_S1x1x100_2 b))

/-! ### The stages at an index -/

/-- The word of 64. -/
theorem bits64 : Ideal.ofBits .f32 0x42800000#32 = ((64 : ℝ) : EReal) := by
  simp [Ideal.ofBits, Ideal.ieee, -EReal.coe_mul]; norm_num

/-- The root of 64. -/
theorem sqrt64 : Ideal.sqrt ((64 : ℝ) : EReal) = ((8 : ℝ) : EReal) := by
  show (if (64 : ℝ) < 0 then (⊥ : EReal) else ((Real.sqrt 64 : ℝ) : EReal)) = _
  rw [if_neg (by norm_num), show (64 : ℝ) = 8 ^ 2 by norm_num, Real.sqrt_sq (by norm_num)]

variable (x : V S4x2048x64) (b : Fin 4) (s : Fin 2048)

/-- Row `s` of batch `b`. -/
abbrev row (x : V S4x2048x64) (b : Fin 4) (s : Fin 2048) : Fin 64 → EReal := fun k => x (ix3 b s k)

/-- The means. -/
theorem rMean_at : rMean x (ix3 b s 0) = Spec.mean (row x b s) := by
  pointwise [rMean]
  rw [bits64]; rfl

/-- The number a variance divides by is 64. -/
theorem rCount_at (i : S_.Idx) : rCount i = ((64 : ℝ) : EReal) := by
  show Ideal.ofBits .f32 0x42800000#32 - (((0#32 : BitVec 32).toInt : ℝ) : EReal) = _
  rw [bits64]; simp

/-- The variances. -/
theorem rVar_at : rVar x (ix3 b s 0) = Spec.vari (row x b s) := by
  pointwise [rVar, rAlong, rMean_at, rCount_at]
  rw [if_pos (by exact_mod_cast (by norm_num : (0 : ℝ) < 64))]; rfl

/-- The normalized rows. -/
theorem rLN_at (g c : V S64) (j : Fin 64) :
    rLN x g c (ix3 b s j) = Spec.ln (fun k => g (ix1 k)) (fun k => c (ix1 k)) (row x b s) j := by
  pointwise [rLN, rAlong, rVec, rMean_at, rVar_at]
  rfl

/-- A linear map. -/
theorem rLin_at (W : V S64x64) (c : V S64) (j : Fin 64) :
    rLin x W c (ix3 b s j) = (∑ k, row x b s k * W (ix2 j k)) + c (ix1 j) := by
  pointwise [rLin, rVec]

/-- The scores. -/
theorem rScores_at (q k : V S4x2048x64) (t : Fin 2048) :
    rScores q k (ix3 b s t) = Spec.score (row q b s) (row k b t) := by
  pointwise [rScores]
  rw [bits64, sqrt64]; rfl

/-- The greatest scores. -/
theorem rTop_at (z : V S4x2048x2048) : rTop z (ix2 b s) = Spec.top (fun u => z (ix3 b s u)) := by
  rw [rTop, Spec.max_at, Spec.hostTop3 z _ _ b s,
    show broadcastInDim S4x2048 ![] bcast_S_S4x2048 (num 0xFF800000#32) (ix2 b s) = (⊥ : EReal) from Spec.bitsBot]
  exact bot_sup_eq _

/-- The exponentials. -/
theorem rExp_at (z : V S4x2048x2048) (t : Fin 2048) :
    rExp z (ix3 b s t) = Spec.expo (fun u => z (ix3 b s u)) t := by
  pointwise [rExp, rTop_at]
  rfl

/-- The softmax. -/
theorem rSoft_at (z : V S4x2048x2048) (t : Fin 2048) :
    rSoft z (ix3 b s t) = Spec.soft (fun u => z (ix3 b s u)) t := by
  pointwise [rSoft, rExp_at]
  rfl

/-- Attention. -/
theorem rAtt_at (q k v : V S4x2048x64) (j : Fin 64) :
    rAtt q k v (ix3 b s j) = Spec.attR (fun t => Spec.score (row q b s) (row k b t)) (fun t => row v b t) j := by
  pointwise [rAtt, rSoft_at, rScores_at]
  rfl

/-- The rows of a projection. -/
theorem rRows_at (W : V S192x64) (o k : Fin 64) :
    rRows W 0 (ix2 o k) = W (ix2 ⟨o.val, by omega⟩ k) ∧ rRows W 1 (ix2 o k) = W (ix2 ⟨64 + o.val, by omega⟩ k)
      ∧ rRows W 2 (ix2 o k) = W (ix2 ⟨128 + o.val, by omega⟩ k) := by
  refine ⟨?_, ?_, ?_⟩ <;> pointwise [rRows]

/-- Their biases. -/
theorem rBias_at (c : V S192) (o : Fin 64) :
    rBias c 0 (ix1 o) = c (ix1 ⟨o.val, by omega⟩) ∧ rBias c 1 (ix1 o) = c (ix1 ⟨64 + o.val, by omega⟩)
      ∧ rBias c 2 (ix1 o) = c (ix1 ⟨128 + o.val, by omega⟩) := by
  refine ⟨?_, ?_, ?_⟩ <;> pointwise [rBias]

/-- The logits. -/
theorem rLogits_at (h : V S8192x64) (G : V S4x64) (r : Fin 8192) (e : Fin 4) :
    rLogits h G (ix2 r e) = ∑ k, h (ix2 r k) * G (ix2 e k) := by
  pointwise [rLogits]

/-- Their exponentials. -/
theorem rGateExp_at (l : V S8192x4) (r : Fin 8192) (e : Fin 4) :
    rGateExp l (ix2 r e) = Spec.expo (fun u => l (ix2 r u)) e := by
  pointwise [rGateExp]
  rw [Spec.bitsBot, max_eq_right bot_le]
  rfl

/-- Their softmax. -/
theorem rProbs_at (l : V S8192x4) (r : Fin 8192) (e : Fin 4) :
    rProbs l (ix2 r e) = Spec.soft (fun u => l (ix2 r u)) e := by
  pointwise [rProbs, rGateExp_at]
  rfl

/-- A place along the second of two axes. -/
theorem along_at (r : Fin 8192) (c k : Fin 4) :
    Shape.Idx.along (ix2 r c : S8192x4.Idx) 1 k = ix2 r k := by
  funext a
  match a with
  | ⟨0, _⟩ => rfl
  | ⟨1, _⟩ => rfl

/-- The sort of a row puts at `c` what the order of the row puts there. -/
theorem rSorted (p : V S8192x4) (r : Fin 8192) (c : Fin 4) :
    sortedFrom (fun k k' : Fin 4 => FloatOps.cmpfTotal (F := Ideal) (φ := .f32) .gt
      (p (Shape.Idx.along (ix2 r c : S8192x4.Idx) 1 k)) (p (Shape.Idx.along (ix2 r c : S8192x4.Idx) 1 k')) == 1#1) c
      = sortedFrom (Spec.before fun e => p (ix2 r e)) c := by
  simp only [along_at]; rfl

/-- The weights chosen. -/
theorem rTwo_values (p : V S8192x4) (r : Fin 8192) (c : Fin 2) :
    (rTwo p).1 (ix2 r c) = p (ix2 r (sortedFrom (Spec.before fun e => p (ix2 r e)) ⟨c.val, by omega⟩)) := by
  rw [rTwo, Host.topK]
  dsimp only
  refine (extractStridedSlice_apply (fun _ => 0) _ sliceFits_S8192x4_S8192x2 (ix2 r c) (ix2 r ⟨c.val, by omega⟩)
    (fun a => match a with
      | ⟨0, _⟩ => (Nat.zero_add _).symm
      | ⟨1, _⟩ => (Nat.zero_add _).symm)).trans ?_
  rw [Host.sort2, dif_pos (by decide), ← rSorted p r ⟨c.val, by omega⟩]
  exact congrArg p (along_at r ⟨c.val, by omega⟩ _)

/-- The experts chosen. -/
theorem rTwo_indices (p : V S8192x4) (r : Fin 8192) (c : Fin 2) :
    (rTwo p).2 (ix2 r c) = BitVec.ofNat 32 (sortedFrom (Spec.before fun e => p (ix2 r e)) ⟨c.val, by omega⟩).val := by
  rw [rTwo, Host.topK]
  dsimp only
  refine (extractStridedSlice_apply (fun _ => 0) _ sliceFits_S8192x4_S8192x2 (ix2 r c) (ix2 r ⟨c.val, by omega⟩)
    (fun a => match a with
      | ⟨0, _⟩ => (Nat.zero_add _).symm
      | ⟨1, _⟩ => (Nat.zero_add _).symm)).trans ?_
  rw [Host.sort2, dif_pos (by decide), ← rSorted p r ⟨c.val, by omega⟩]
  rfl

/-- A weight over the sum of the two. -/
theorem rPair_at (v : V S8192x2) (r : Fin 8192) (c : Fin 2) :
    rPair v (ix2 r c) = Ideal.div (v (ix2 r c)) (v (ix2 r 0) + v (ix2 r 1)) := by
  pointwise [rPair]
  rw [Fin.sum_univ_two]

/-- The hidden layers. -/
theorem rUp_at (h : V S8192x64) (U : V S4x256x64) (e : Fin 4) (r : Fin 8192) (f : Fin 256) :
    rUp h U (ix3 e r f) = ∑ k, h (ix2 r k) * U (ix3 e f k) := by
  pointwise [rUp]
  exact Finset.sum_congr rfl fun k _ => mul_comm _ _

/-- Their gate. -/
theorem rSilu_at (z : V S4x8192x128) (e : Fin 4) (r : Fin 8192) (f : Fin 128) :
    rSilu z (ix3 e r f) = Spec.silu (z (ix3 e r f)) := by
  pointwise [rSilu]
  rfl

/-- The experts' outputs. -/
theorem rExperts_at (h : V S8192x64) (U : V S4x256x64) (D : V S4x64x128) (e : Fin 4) (r : Fin 8192) (j : Fin 64) :
    rExperts h U D (ix3 e r j)
      = Spec.expert (fun f k => U (ix3 e f k)) (fun f k => D (ix3 e f k)) (fun k => h (ix2 r k)) j := by
  pointwise [rExperts, rSilu_at, rUp_at]
  rfl

/-- The expert's number is not wrapped. -/
theorem rAt_expert (i : IVec S8192 32) (r : Fin 8192) (e : Fin 4) (he : i (ix1 r) = BitVec.ofNat 32 e.val) :
    rAt i (ix2 r 0) = BitVec.ofNat 32 e.val := by
  pointwise [rAt, rWrapE]
  rw [he]; clear he; revert e; decide

/-- Nor is the row's. -/
theorem rAt_row (i : IVec S8192 32) (r : Fin 8192) : rAt i (ix2 r 1) = BitVec.ofNat 32 r.val := by
  pointwise [rAt, rWrapR]
  simp (disch := word_cmp_side) only [hlo_ix]
  exact if_neg (Nat.not_lt_zero _)

/-- The output of a row's expert, picked. -/
theorem gather_at (o : V S4x8192x64) (i : IVec S8192x2 32) (r : Fin 8192) (e : Fin 4) (j : Fin 64)
    (he : i (ix2 r 0) = BitVec.ofNat 32 e.val) (hr : i (ix2 r 1) = BitVec.ofNat 32 r.val) :
    Host.gather gather_S4x8192x64_S8192x2_S8192x64_1_01_n_n_01_1_1164 o i (ix2 r j) = o (ix3 e r j) := by
  unfold Host.gather
  refine congrArg o (funext fun a => Fin.ext ?_)
  show GatherDims.start _ _ i a + GatherDims.batchCoord _ _ a + GatherDims.offCoord _ _ a = _
  rw [GatherDims.batchCoord_eq_zero _ _ _ List.not_mem_nil, Nat.add_zero]
  match a with
  | ⟨0, _⟩ =>
    show min (i (GatherDims.siIdx gather_S4x8192x64_S8192x2_S8192x64_1_01_n_n_01_1_1164 (ix2 r j) ⟨0, by decide⟩)).toInt.toNat
      3 + 0 = e.val
    rw [show GatherDims.siIdx gather_S4x8192x64_S8192x2_S8192x64_1_01_n_n_01_1_1164 (ix2 r j) ⟨0, by decide⟩ = ix2 r 0 from
      funext fun b => match b with
        | ⟨0, _⟩ => rfl
        | ⟨1, _⟩ => rfl, he]
    clear he hr; revert e; decide
  | ⟨1, _⟩ =>
    show min (i (GatherDims.siIdx gather_S4x8192x64_S8192x2_S8192x64_1_01_n_n_01_1_1164 (ix2 r j) ⟨1, by decide⟩)).toInt.toNat
      8191 + 0 = r.val
    rw [show GatherDims.siIdx gather_S4x8192x64_S8192x2_S8192x64_1_01_n_n_01_1_1164 (ix2 r j) ⟨1, by decide⟩ = ix2 r 1 from
      funext fun b => match b with
        | ⟨0, _⟩ => rfl
        | ⟨1, _⟩ => rfl, hr]
    have : (BitVec.ofNat 32 r.val).toInt = (r.val : ℤ) := by
      have h : (BitVec.ofNat 32 r.val).toNat = r.val := by rw [BitVec.toNat_ofNat]; omega
      rw [BitVec.toInt_eq_toNat_of_lt (by rw [h]; omega), h]
    rw [this]; omega
  | ⟨2, _⟩ =>
    show 0 + j.val = j.val
    omega

/-- A column. -/
theorem rCol_at {α : Type} (v : S8192x2.Idx → α) (c : Fin 2) (r : Fin 8192) : rCol v c (ix1 r) = v (ix2 r c) := by
  match c with
  | 0 => pointwise [rCol]
  | 1 => pointwise [rCol]

/-- A weighted output. -/
theorem rTerm_at (w : V S8192) (i : IVec S8192 32) (o : V S4x8192x64) (r : Fin 8192) (e : Fin 4) (j : Fin 64)
    (he : i (ix1 r) = BitVec.ofNat 32 e.val) : rTerm w i o (ix2 r j) = w (ix1 r) * o (ix3 e r j) := by
  rw [← gather_at o (rAt i) r e j (rAt_expert i r e he) (rAt_row i r)]
  pointwise [rTerm]

/-- The two chosen experts, weighted. -/
theorem rMix_at (p : V S8192x4) (o : V S4x8192x64) (r : Fin 8192) (j : Fin 64) :
    rMix p o (ix2 r j) = Spec.mixR (fun e => p (ix2 r e)) (fun e => o (ix3 e r j)) := by
  have h0 := rTerm_at (rCol (rPair (rTwo p).1) 0) (rCol (rTwo p).2 0) o r (Spec.fst fun e => p (ix2 r e)) j
    ((rCol_at _ 0 r).trans (rTwo_indices p r 0))
  have h1 := rTerm_at (rCol (rPair (rTwo p).1) 1) (rCol (rTwo p).2 1) o r (Spec.snd fun e => p (ix2 r e)) j
    ((rCol_at _ 1 r).trans (rTwo_indices p r 1))
  have v0 : (rTwo p).1 (ix2 r 0) = p (ix2 r (Spec.fst fun e => p (ix2 r e))) := rTwo_values p r 0
  have v1 : (rTwo p).1 (ix2 r 1) = p (ix2 r (Spec.snd fun e => p (ix2 r e))) := rTwo_values p r 1
  rw [rCol_at, rPair_at, v0, v1] at h0 h1
  pointwise [rMix, h0, h1]
  rfl

/-- The rows of the last linear map. -/
theorem rHead_at (W : V S100x64) (c : V S100) (o : Fin 100) :
    rHead x W c (ix3 b s o) = Spec.lin (fun o k => W (ix2 o k)) (fun o => c (ix1 o)) (row x b s) o := by
  pointwise [rHead]
  rfl

end Cert.RefStages

end
-- ==== Proof.RefLayer.lean ====
module

public import proofs.«01_k».proof.Proof.Ref

@[expose] public section

set_option maxRecDepth 16384

noncomputable section

/-! The reference's result is the forward pass of `Spec` with its own forms of attention and weighting. -/

namespace Cert.RefStages

open Idealize.ShloMosaic Idealize.ShloMosaic.TcCoe Idealize.SL.Sem Idealize.ShloMosaic.StableHlo
open Cert.ReferenceIdeal Cert.ReferenceIdeal.Gen Cert.ReferenceIdeal.Read

/-- One layer's weights, by coordinates. -/
def weights (g1 b1 : V S64) (W : V S192x64) (c : V S192) (O : V S64x64) (o g2 b2 : V S64) (G : V S4x64)
    (U : V S4x256x64) (D : V S4x64x128) : Spec.Weights where
  g1 j := g1 (ix1 j)
  b1 j := b1 (ix1 j)
  qkv r k := W (ix2 r k)
  bqkv r := c (ix1 r)
  out r k := O (ix2 r k)
  bout r := o (ix1 r)
  g2 j := g2 (ix1 j)
  b2 j := b2 (ix1 j)
  gate e k := G (ix2 e k)
  up e f k := U (ix3 e f k)
  down e j f := D (ix3 e j f)

variable (x : V S4x2048x64) (g1 b1 : V S64) (W : V S192x64) (c : V S192) (O : V S64x64) (o g2 b2 : V S64) (G : V S4x64)
  (U : V S4x256x64) (D : V S4x64x128) (b : Fin 4) (s : Fin 2048)

/-- The rows after attention. -/
theorem rMid_at : row (rMid x g1 b1 W c O o) b s
    = (weights g1 b1 W c O o g2 b2 G U D).mid Spec.attR (fun t => row x b t) s := by
  have hq : ∀ t, row (rLin (rLN x g1 b1) (rRows W 0) (rBias c 0)) b t = (weights g1 b1 W c O o g2 b2 G U D).q (row x b t) :=
    fun t => funext fun d => by
      show rLin _ _ _ _ = _
      rw [rLin_at, (rBias_at c d).1]
      simp only [(rRows_at W d _).1, rLN_at]; rfl
  have hk : ∀ t, row (rLin (rLN x g1 b1) (rRows W 1) (rBias c 1)) b t = (weights g1 b1 W c O o g2 b2 G U D).k (row x b t) :=
    fun t => funext fun d => by
      show rLin _ _ _ _ = _
      rw [rLin_at, (rBias_at c d).2.1]
      simp only [(rRows_at W d _).2.1, rLN_at]; rfl
  have hv : ∀ t, row (rLin (rLN x g1 b1) (rRows W 2) (rBias c 2)) b t = (weights g1 b1 W c O o g2 b2 G U D).v (row x b t) :=
    fun t => funext fun d => by
      show rLin _ _ _ _ = _
      rw [rLin_at, (rBias_at c d).2.2]
      simp only [(rRows_at W d _).2.2, rLN_at]; rfl
  funext j
  show x (ix3 b s j) + rLin _ _ _ (ix3 b s j) = _
  rw [rLin_at]
  simp only [rAtt_at, hq, hk, hv]
  rfl

/-- The merged row number of row `s` of batch `b`. -/
abbrev merged (b : Fin 4) (s : Fin 2048) : Fin 8192 := ⟨b.val * 2048 + s.val, by omega⟩

/-- Batches and rows merged, at a merged row. -/
theorem cast_in (k : Fin 64) : shapeCast S8192x64 x shapeCasts_S4x2048x64_S8192x64 (ix2 (merged b s) k) = x (ix3 b s k) := by
  pointwise
  refine congrArg x ((ix3_inj ..).2 ⟨Fin.ext ?_, Fin.ext ?_, rfl⟩)
  · show (b.val * 2048 + s.val) / 2048 = b.val
    omega
  · show (b.val * 2048 + s.val) % 2048 = s.val
    omega

/-- Merged rows parted again. -/
theorem cast_out (z : V S8192x64) (j : Fin 64) :
    shapeCast S4x2048x64 z shapeCasts_S8192x64_S4x2048x64 (ix3 b s j) = z (ix2 (merged b s) j) := by
  pointwise

/-- The rows after the experts. -/
theorem rFfn_at : row (rFfn x g2 b2 G U D) b s = (weights g1 b1 W c O o g2 b2 G U D).ffn Spec.mixR (row x b s) := by
  funext j
  show x (ix3 b s j) + shapeCast S4x2048x64 _ shapeCasts_S8192x64_S4x2048x64 (ix3 b s j) = _
  rw [cast_out, rMix_at]
  simp only [rProbs_at, rLogits_at, rExperts_at, cast_in, rLN_at]
  rfl

/-- A layer. -/
theorem rLayer_at : row (rFfn (rMid x g1 b1 W c O o) g2 b2 G U D) b s
    = (weights g1 b1 W c O o g2 b2 G U D).layerR (fun t => row x b t) s := by
  rw [rFfn_at _ g1 b1 W c O o, rMid_at x g1 b1 W c O o g2 b2 G U D]; rfl

/-- The first layer of the reference. -/
theorem layer1_eq (x0 : V S4x2048x64) (x1 x2 : V S2x64) (x3 : V S2x192x64) (x4 : V S2x192) (x5 : V S2x64x64)
    (x6 x7 x8 : V S2x64) (x9 : V S2x4x64) (x10 : V S2x4x256x64) (x11 : V S2x4x64x128) :
    val_main_v173 (F := Ideal) x0 x1 x2 x3 x4 x5 x6 x7 x8 x9 x10 x11
      = rFfn (rMid x0 (val_main_v1 (F := Ideal) x1) (val_main_v3 (F := Ideal) x2) (val_main_v23 (F := Ideal) x3) (val_main_v25 (F := Ideal) x4) (val_main_v27 (F := Ideal) x5) (val_main_v29 (F := Ideal) x6))
          (val_main_v74 (F := Ideal) x7) (val_main_v76 (F := Ideal) x8) (val_main_v96 (F := Ideal) x9) (val_main_v98 (F := Ideal) x10) (val_main_v100 (F := Ideal) x11) := rfl

/-- The second layer of the reference. -/
theorem layer2_eq (x0 : V S4x2048x64) (x1 x2 : V S2x64) (x3 : V S2x192x64) (x4 : V S2x192) (x5 : V S2x64x64)
    (x6 x7 x8 : V S2x64) (x9 : V S2x4x64) (x10 : V S2x4x256x64) (x11 : V S2x4x64x128) :
    val_main_v347 (F := Ideal) x0 x1 x2 x3 x4 x5 x6 x7 x8 x9 x10 x11
      = rFfn (rMid (val_main_v173 (F := Ideal) x0 x1 x2 x3 x4 x5 x6 x7 x8 x9 x10 x11) (val_main_v175 (F := Ideal) x1) (val_main_v177 (F := Ideal) x2)
          (val_main_v197 (F := Ideal) x3) (val_main_v199 (F := Ideal) x4) (val_main_v201 (F := Ideal) x5) (val_main_v203 (F := Ideal) x6))
          (val_main_v248 (F := Ideal) x7) (val_main_v250 (F := Ideal) x8) (val_main_v270 (F := Ideal) x9) (val_main_v272 (F := Ideal) x10) (val_main_v274 (F := Ideal) x11) := rfl

/-- The weights of layer `l`, by coordinates of the arguments. -/
def argWeights (x1 x2 : V S2x64) (x3 : V S2x192x64) (x4 : V S2x192) (x5 : V S2x64x64)
    (x6 x7 x8 : V S2x64) (x9 : V S2x4x64) (x10 : V S2x4x256x64) (x11 : V S2x4x64x128) (l : Fin 2) : Spec.Weights where
  g1 j := x1 (ix2 l j)
  b1 j := x2 (ix2 l j)
  qkv r k := x3 (ix3 l r k)
  bqkv r := x4 (ix2 l r)
  out r k := x5 (ix3 l r k)
  bout r := x6 (ix2 l r)
  g2 j := x7 (ix2 l j)
  b2 j := x8 (ix2 l j)
  gate e k := x9 (ix3 l e k)
  up e f k := x10 (ix4 l e f k)
  down e j f := x11 (ix4 l e j f)

/-- The first layer's weights. -/
theorem weights1 (x1 x2 : V S2x64) (x3 : V S2x192x64) (x4 : V S2x192) (x5 : V S2x64x64)
    (x6 x7 x8 : V S2x64) (x9 : V S2x4x64) (x10 : V S2x4x256x64) (x11 : V S2x4x64x128) :
    weights (val_main_v1 (F := Ideal) x1) (val_main_v3 (F := Ideal) x2) (val_main_v23 (F := Ideal) x3) (val_main_v25 (F := Ideal) x4) (val_main_v27 (F := Ideal) x5) (val_main_v29 (F := Ideal) x6)
      (val_main_v74 (F := Ideal) x7) (val_main_v76 (F := Ideal) x8) (val_main_v96 (F := Ideal) x9) (val_main_v98 (F := Ideal) x10) (val_main_v100 (F := Ideal) x11)
      = argWeights x1 x2 x3 x4 x5 x6 x7 x8 x9 x10 x11 0 := by
  rw [weights, argWeights]
  congr 1 <;> funext
  all_goals pointwise [val_main_v0, val_main_v1, val_main_v2, val_main_v3, val_main_v22, val_main_v23, val_main_v24, val_main_v25,
    val_main_v26, val_main_v27, val_main_v28, val_main_v29, val_main_v73, val_main_v74, val_main_v75, val_main_v76,
    val_main_v95, val_main_v96, val_main_v97, val_main_v98, val_main_v99, val_main_v100]

/-- The second layer's weights. -/
theorem weights2 (x1 x2 : V S2x64) (x3 : V S2x192x64) (x4 : V S2x192) (x5 : V S2x64x64)
    (x6 x7 x8 : V S2x64) (x9 : V S2x4x64) (x10 : V S2x4x256x64) (x11 : V S2x4x64x128) :
    weights (val_main_v175 (F := Ideal) x1) (val_main_v177 (F := Ideal) x2) (val_main_v197 (F := Ideal) x3) (val_main_v199 (F := Ideal) x4) (val_main_v201 (F := Ideal) x5) (val_main_v203 (F := Ideal) x6)
      (val_main_v248 (F := Ideal) x7) (val_main_v250 (F := Ideal) x8) (val_main_v270 (F := Ideal) x9) (val_main_v272 (F := Ideal) x10) (val_main_v274 (F := Ideal) x11)
      = argWeights x1 x2 x3 x4 x5 x6 x7 x8 x9 x10 x11 1 := by
  rw [weights, argWeights]
  congr 1 <;> funext
  all_goals pointwise [val_main_v174, val_main_v175, val_main_v176, val_main_v177, val_main_v196, val_main_v197, val_main_v198,
    val_main_v199, val_main_v200, val_main_v201, val_main_v202, val_main_v203, val_main_v247, val_main_v248, val_main_v249,
    val_main_v250, val_main_v269, val_main_v270, val_main_v271, val_main_v272, val_main_v273, val_main_v274]

/-- The reference's result at an index. -/
theorem result_at (x0 : V S4x2048x64) (x1 x2 : V S2x64) (x3 : V S2x192x64) (x4 : V S2x192) (x5 : V S2x64x64)
    (x6 x7 x8 : V S2x64) (x9 : V S2x4x64) (x10 : V S2x4x256x64) (x11 : V S2x4x64x128) (x12 : V S100x64) (x13 : V S100)
    (o : Fin 100) :
    val_main_v352 (F := Ideal) x0 x1 x2 x3 x4 x5 x6 x7 x8 x9 x10 x11 x12 x13 (ix3 b s o)
      = Spec.lin (fun o k => x12 (ix2 o k)) (fun o => x13 (ix1 o))
          ((argWeights x1 x2 x3 x4 x5 x6 x7 x8 x9 x10 x11 1).layerR
            ((argWeights x1 x2 x3 x4 x5 x6 x7 x8 x9 x10 x11 0).layerR fun t => row x0 b t) s) o := by
  show rHead (val_main_v347 (F := Ideal) x0 x1 x2 x3 x4 x5 x6 x7 x8 x9 x10 x11) x12 x13 (ix3 b s o) = _
  rw [rHead_at, layer2_eq, rLayer_at, weights2]
  have h1 : ∀ t, row (val_main_v173 (F := Ideal) x0 x1 x2 x3 x4 x5 x6 x7 x8 x9 x10 x11) b t
      = (argWeights x1 x2 x3 x4 x5 x6 x7 x8 x9 x10 x11 0).layerR (fun t => row x0 b t) t := fun t => by
    rw [layer1_eq, rLayer_at, weights1]
  simp only [h1]

end Cert.RefStages

end
-- ==== Proof.KernLayer.lean ====
module

public import proofs.«01_k».proof.Proof.Words
public import proofs.«01_k».proof.Proof.RefLayer

@[expose] public section

set_option maxRecDepth 16384

noncomputable section

/-! A layer of the kernel's run, row by row. -/

namespace Cert.KernStages

open Idealize.ShloMosaic Idealize.ShloMosaic.TcCoe Idealize.SL.Sem
open Cert.KernelIdeal Cert.KernelIdeal.Gen

/-! ### The parts of the weights at an index -/

section
variable (l : Fin 2) (o : Fin 3) (e : Fin 4)

/-- A row. -/
theorem pRow_at (x : V S2x64) (j : Fin 64) : pRow x l (ix2 0 j) = x (ix2 l j) := by
  pointwise [pRow]
  blk_ext []

/-- A matrix. -/
theorem pMat_at (x : V S2x64x64) (j k : Fin 64) : pMat x l (ix3 0 j k) = x (ix3 l j k) := by
  pointwise [pMat]
  blk_ext []

/-- Every offset leaves room for 64 rows. -/
theorem off_le (d : Fin 64) : off o + d.val < 192 := by
  match o with
  | 0 => show 0 + d.val < 192; omega
  | 1 => show 64 + d.val < 192; omega
  | 2 => show 128 + d.val < 192; omega

/-- A matrix of queries, keys or values. -/
theorem pIn_at (x : V S2x192x64) (j k : Fin 64) : pIn x l o (ix3 0 j k) = x (ix3 l ⟨off o + j.val, off_le o j⟩ k) := by
  pointwise [pIn]
  blk_ext []

/-- Its bias. -/
theorem pInB_at (x : V S2x192) (j : Fin 64) : pInB x l o (ix2 0 j) = x (ix2 l ⟨off o + j.val, off_le o j⟩) := by
  pointwise [pInB]
  blk_ext []

/-- A gate. -/
theorem pGate_at (x : V S2x4x64) (j : Fin 4) (k : Fin 64) : pGate x l (ix3 0 j k) = x (ix3 l j k) := by
  pointwise [pGate]
  blk_ext []

/-- An expert's first matrix. -/
theorem pUp_at (x : V S2x4x256x64) (j : Fin 256) (k : Fin 64) : pUp x l e (ix4 0 0 j k) = x (ix4 l e j k) := by
  pointwise [pUp]
  blk_ext []

/-- An expert's second matrix. -/
theorem pDown_at (x : V S2x4x64x128) (j : Fin 64) (k : Fin 128) : pDown x l e (ix4 0 0 j k) = x (ix4 l e j k) := by
  pointwise [pDown]
  blk_ext []

/-- The block of rows. -/
theorem pX_at (x : V S1x2048x64) (r : Fin 2048) (k : Fin 64) : k0_pay2 (F := Ideal) (pX x) (ix2 r k) = x (ix3 0 r k) := by
  pointwise [k0_pay2, pX]
  blk_ext []

/-- The last matrix. -/
theorem pHead_eq (x : V S100x64) : pHead x = x := by
  funext i
  pointwise [pHead]
  blk_ext []

end

/-! ### One layer -/

section
variable (x1 x2 : V S2x64) (x3 : V S2x192x64) (x4 : V S2x192) (x5 : V S2x64x64)
  (x6 x7 x8 : V S2x64) (x9 : V S2x4x64) (x10 : V S2x4x256x64) (x11 : V S2x4x64x128)
  (l : Fin 2) (x : V S2048x64)

/-- The weights of layer `l`. -/
abbrev wts : Spec.Weights := Cert.RefStages.argWeights x1 x2 x3 x4 x5 x6 x7 x8 x9 x10 x11 l

/-- The queries, keys or values. -/
def kIn (o : Fin 3) : V S2048x64 := kLin (kLN x (pRow x1 l) (pRow x2 l)) (pIn x3 l o) (pInB x4 l o)

/-- The rows after attention. -/
def kMidOf : V S2048x64 :=
  kMid x (kIn x1 x2 x3 x4 l x 0) (kIn x1 x2 x3 x4 l x 1) (kIn x1 x2 x3 x4 l x 2) (pMat x5 l) (pRow x6 l)

/-- The rows after the experts, from the rows before them. -/
def kFfn : V S2048x64 :=
  kMix x (kLN x (pRow x7 l) (pRow x8 l)) (kWeights (kProbs (kLogits (kLN x (pRow x7 l) (pRow x8 l)) (pGate x9 l))))
    (pUp x10 l) (pDown x11 l)

/-- The rows after the layer. -/
def kLayer : V S2048x64 := kFfn x7 x8 x9 x10 x11 l (kMidOf x1 x2 x3 x4 x5 x6 l x)

/-- The queries, keys or values at an index. -/
theorem kIn_at (o : Fin 3) (r : Fin 2048) (d : Fin 64) : kIn x1 x2 x3 x4 l x o (ix2 r d)
    = (∑ k, Spec.ln (fun j => x1 (ix2 l j)) (fun j => x2 (ix2 l j)) (row x r) k * x3 (ix3 l ⟨off o + d.val, off_le o d⟩ k))
      + x4 (ix2 l ⟨off o + d.val, off_le o d⟩) := by
  rw [kIn, kLin_at, pInB_at]
  simp only [kLN_at, pRow_at, pIn_at]

/-- The rows after attention. -/
theorem kMidOf_row (r : Fin 2048) : row (kMidOf x1 x2 x3 x4 x5 x6 l x) r
    = (wts x1 x2 x3 x4 x5 x6 x7 x8 x9 x10 x11 l).mid Spec.attK (row x) r := by
  funext j
  have hq : ∀ t, row (kIn x1 x2 x3 x4 l x 0) t = (wts x1 x2 x3 x4 x5 x6 x7 x8 x9 x10 x11 l).q (row x t) := fun t => funext fun d => by
    show kIn x1 x2 x3 x4 l x 0 (ix2 t d) = _
    rw [kIn_at]
    simp only [Spec.Weights.q, wts, Cert.RefStages.argWeights, off, Nat.zero_add]
  have hk : ∀ t, row (kIn x1 x2 x3 x4 l x 1) t = (wts x1 x2 x3 x4 x5 x6 x7 x8 x9 x10 x11 l).k (row x t) := fun t => funext fun d => by
    show kIn x1 x2 x3 x4 l x 1 (ix2 t d) = _
    rw [kIn_at]
    simp only [Spec.Weights.k, wts, Cert.RefStages.argWeights, off]
  have hv : ∀ t, row (kIn x1 x2 x3 x4 l x 2) t = (wts x1 x2 x3 x4 x5 x6 x7 x8 x9 x10 x11 l).v (row x t) := fun t => funext fun d => by
    show kIn x1 x2 x3 x4 l x 2 (ix2 t d) = _
    rw [kIn_at]
    simp only [Spec.Weights.v, wts, Cert.RefStages.argWeights, off]
  show x (ix2 r j) + kLin _ (pMat x5 l) (pRow x6 l) (ix2 r j) = _
  rw [kLin_at, pRow_at]
  simp only [pMat_at, kCat_att, hq, hk, hv]
  rfl

set_option maxHeartbeats 1000000 in
/-- The rows after the experts. -/
theorem kFfn_row (r : Fin 2048) : row (kFfn x7 x8 x9 x10 x11 l x) r
    = (wts x1 x2 x3 x4 x5 x6 x7 x8 x9 x10 x11 l).ffn Spec.mixK (row x r) := by
  funext j
  have hl : row (kLN x (pRow x7 l) (pRow x8 l)) r
      = Spec.ln (fun j => x7 (ix2 l j)) (fun j => x8 (ix2 l j)) (row x r) := funext fun k => by
    show kLN x _ _ (ix2 r k) = _
    rw [kLN_at]
    simp only [pRow_at]
  show kFfn x7 x8 x9 x10 x11 l x (ix2 r j) = _
  rw [kFfn, kMix_at, hl]
  simp only [kWeights_at, kProbs_at, kLogits_at, kLN_at, pRow_at, pGate_at, pUp_at, pDown_at]
  rfl

/-- The rows after the layer. -/
theorem kLayer_row : row (kLayer x1 x2 x3 x4 x5 x6 x7 x8 x9 x10 x11 l x) = (wts x1 x2 x3 x4 x5 x6 x7 x8 x9 x10 x11 l).layerK (row x) := by
  funext r
  rw [kLayer, kFfn_row x1 x2 x3 x4 x5 x6 x7 x8 x9 x10 x11, kMidOf_row x1 x2 x3 x4 x5 x6 x7 x8 x9 x10 x11]
  rfl

end

/-! ### The run -/

variable (c : Dev nD)
  (arg1 : Memref sig .tc .vmem S1x2048x64 .f32) (harg1 : arg1.IsWhole)
  (arg2 : Memref sig .tc .vmem S2x64 .f32) (harg2 : arg2.IsWhole)
  (arg3 : Memref sig .tc .vmem S2x64 .f32) (harg3 : arg3.IsWhole)
  (arg4 : Memref sig .tc .vmem S2x192x64 .f32) (harg4 : arg4.IsWhole)
  (arg5 : Memref sig .tc .vmem S2x192 .f32) (harg5 : arg5.IsWhole)
  (arg6 : Memref sig .tc .vmem S2x64x64 .f32) (harg6 : arg6.IsWhole)
  (arg7 : Memref sig .tc .vmem S2x64 .f32) (harg7 : arg7.IsWhole)
  (arg8 : Memref sig .tc .vmem S2x64 .f32) (harg8 : arg8.IsWhole)
  (arg9 : Memref sig .tc .vmem S2x64 .f32) (harg9 : arg9.IsWhole)
  (arg10 : Memref sig .tc .vmem S2x4x64 .f32) (harg10 : arg10.IsWhole)
  (arg11 : Memref sig .tc .vmem S2x4x256x64 .f32) (harg11 : arg11.IsWhole)
  (arg12 : Memref sig .tc .vmem S2x4x64x128 .f32) (harg12 : arg12.IsWhole)
  (arg13 : Memref sig .tc .vmem S100x64 .f32) (harg13 : arg13.IsWhole)
  (arg14 : Memref sig .tc .vmem S1x100 .f32) (harg14 : arg14.IsWhole)
  (arg15 : Memref sig .tc .vmem S1x2048x100 .f32) (harg15 : arg15.IsWhole)
  (arg16 : Memref sig .tc .vmem S512x64 .f32) (harg16 : arg16.IsWhole)
  (x0 : Vec Ideal S1x2048x64 .f32)
  (x1 : Vec Ideal S2x64 .f32)
  (x2 : Vec Ideal S2x64 .f32)
  (x3 : Vec Ideal S2x192x64 .f32)
  (x4 : Vec Ideal S2x192 .f32)
  (x5 : Vec Ideal S2x64x64 .f32)
  (x6 : Vec Ideal S2x64 .f32)
  (x7 : Vec Ideal S2x64 .f32)
  (x8 : Vec Ideal S2x64 .f32)
  (x9 : Vec Ideal S2x4x64 .f32)
  (x10 : Vec Ideal S2x4x256x64 .f32)
  (x11 : Vec Ideal S2x4x64x128 .f32)
  (x12 : Vec Ideal S100x64 .f32)
  (x13 : Vec Ideal S1x100 .f32)

/-- What the run computes before the last bias. -/
theorem word_all : (kernelRun0_A.sl.r_87 (F := Ideal) c arg1 harg1 arg2 harg2 arg3 harg3 arg4 harg4 arg5 harg5 arg6 harg6 arg7 harg7 arg8 harg8 arg9 harg9 arg10 harg10 arg11 harg11 arg12 harg12 arg13 harg13 arg16 x0 x1 x2 x3 x4 x5 x6 x7 x8 x9 x10 x11 x12)
    = kHead (kLayer x1 x2 x3 x4 x5 x6 x7 x8 x9 x10 x11 1 (kLayer x1 x2 x3 x4 x5 x6 x7 x8 x9 x10 x11 0 (k0_pay2 (pX x0)))) x12 := by
  have h1 : (kernelRun0_A.sl.r_29 (F := Ideal) c arg1 harg1 arg2 harg2 arg3 harg3 arg4 harg4 arg5 harg5 arg6 harg6 arg7 harg7 arg16 x0 x1 x2 x3 x4 x5 x6) = kMidOf x1 x2 x3 x4 x5 x6 0 (k0_pay2 (pX x0)) := by
    rw [word_r_29, word_r_6, word_r_7, word_r_9]; simp only [kernelRun0_A.sl.r, View.readAt_eq_ld, Memref.IsWhole.read_unread]; rfl
  have h2 : (kernelRun0_A.sl.r_43 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) = kLayer x1 x2 x3 x4 x5 x6 x7 x8 x9 x10 x11 0 (k0_pay2 (pX x0)) := by
    rw [word_r_43, word_r_40, word_r_35, h1]; rfl
  have h3 : (kernelRun0_A.sl.r_73 (F := Ideal) c arg1 harg1 arg2 harg2 arg3 harg3 arg4 harg4 arg5 harg5 arg6 harg6 arg7 harg7 arg8 harg8 arg9 harg9 arg10 harg10 arg11 harg11 arg12 harg12 arg16 x0 x1 x2 x3 x4 x5 x6 x7 x8 x9 x10 x11) = kMidOf x1 x2 x3 x4 x5 x6 1 (kLayer x1 x2 x3 x4 x5 x6 x7 x8 x9 x10 x11 0 (k0_pay2 (pX x0))) := by
    rw [word_r_73, word_r_49, word_r_50, word_r_51, h2]; rfl
  rw [word_r_87, word_r_84, word_r_79, h3, pHead_eq]; rfl

/-- A row of the result before the last bias. -/
theorem word_all_at (r : Fin 2048) (o : Fin 100) : (kernelRun0_A.sl.r_87 (F := Ideal) c arg1 harg1 arg2 harg2 arg3 harg3 arg4 harg4 arg5 harg5 arg6 harg6 arg7 harg7 arg8 harg8 arg9 harg9 arg10 harg10 arg11 harg11 arg12 harg12 arg13 harg13 arg16 x0 x1 x2 x3 x4 x5 x6 x7 x8 x9 x10 x11 x12) (ix2 r o)
    = ∑ k, (wts x1 x2 x3 x4 x5 x6 x7 x8 x9 x10 x11 1).layerK ((wts x1 x2 x3 x4 x5 x6 x7 x8 x9 x10 x11 0).layerK fun t j => x0 (ix3 0 t j)) r k * x12 (ix2 o k) := by
  have h0 : row (k0_pay2 (F := Ideal) (pX x0)) = fun t j => x0 (ix3 0 t j) := funext fun t => funext fun j => pX_at x0 t j
  rw [word_all, kHead_at, ← h0, ← kLayer_row x1 x2 x3 x4 x5 x6 x7 x8 x9 x10 x11, ← kLayer_row x1 x2 x3 x4 x5 x6 x7 x8 x9 x10 x11]

end Cert.KernStages

end
-- ==== Proof.Block.lean ====
module

public import proofs.«01_k».proof.Proof.KernLayer

@[expose] public section

set_option maxRecDepth 16384

noncomputable section

/-! What the kernel's run leaves in one block of the result. -/

namespace Cert.KernStages

open Idealize.ShloMosaic Idealize.ShloMosaic.TcCoe Idealize.SL.Sem
open Cert.KernelIdeal Cert.KernelIdeal.Gen

variable (c : Dev nD) (i : grid0.Coords)
  (arg1 : Memref sig .tc .vmem S1x2048x64 .f32) (harg1 : arg1.IsWhole)
  (arg2 : Memref sig .tc .vmem S2x64 .f32) (harg2 : arg2.IsWhole)
  (arg3 : Memref sig .tc .vmem S2x64 .f32) (harg3 : arg3.IsWhole)
  (arg4 : Memref sig .tc .vmem S2x192x64 .f32) (harg4 : arg4.IsWhole)
  (arg5 : Memref sig .tc .vmem S2x192 .f32) (harg5 : arg5.IsWhole)
  (arg6 : Memref sig .tc .vmem S2x64x64 .f32) (harg6 : arg6.IsWhole)
  (arg7 : Memref sig .tc .vmem S2x64 .f32) (harg7 : arg7.IsWhole)
  (arg8 : Memref sig .tc .vmem S2x64 .f32) (harg8 : arg8.IsWhole)
  (arg9 : Memref sig .tc .vmem S2x64 .f32) (harg9 : arg9.IsWhole)
  (arg10 : Memref sig .tc .vmem S2x4x64 .f32) (harg10 : arg10.IsWhole)
  (arg11 : Memref sig .tc .vmem S2x4x256x64 .f32) (harg11 : arg11.IsWhole)
  (arg12 : Memref sig .tc .vmem S2x4x64x128 .f32) (harg12 : arg12.IsWhole)
  (arg13 : Memref sig .tc .vmem S100x64 .f32) (harg13 : arg13.IsWhole)
  (arg14 : Memref sig .tc .vmem S1x100 .f32) (harg14 : arg14.IsWhole)
  (arg15 : Memref sig .tc .vmem S1x2048x100 .f32) (harg15 : arg15.IsWhole)
  (arg16 : Memref sig .tc .vmem S512x64 .f32) (harg16 : arg16.IsWhole)
  (x0 : Vec Ideal S1x2048x64 .f32)
  (x1 : Vec Ideal S2x64 .f32)
  (x2 : Vec Ideal S2x64 .f32)
  (x3 : Vec Ideal S2x192x64 .f32)
  (x4 : Vec Ideal S2x192 .f32)
  (x5 : Vec Ideal S2x64x64 .f32)
  (x6 : Vec Ideal S2x64 .f32)
  (x7 : Vec Ideal S2x64 .f32)
  (x8 : Vec Ideal S2x64 .f32)
  (x9 : Vec Ideal S2x4x64 .f32)
  (x10 : Vec Ideal S2x4x256x64 .f32)
  (x11 : Vec Ideal S2x4x64x128 .f32)
  (x12 : Vec Ideal S100x64 .f32)
  (x13 : Vec Ideal S1x100 .f32)

/-- The block holds the last linear map with its bias. -/
theorem out_eq : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13
    = k0_pay1 (kernelRun0_A.sl.r_87 (F := Ideal) c arg1 harg1 arg2 harg2 arg3 harg3 arg4 harg4 arg5 harg5 arg6 harg6 arg7 harg7 arg8 harg8 arg9 harg9 arg10 harg10 arg11 harg11 arg12 harg12 arg13 harg13 arg16 x0 x1 x2 x3 x4 x5 x6 x7 x8 x9 x10 x11 x12) (kernelRun0_A.sl.r_88 (F := Ideal) c arg14 harg14 x13) := by
  unfold out0_A_14
  rw [View.read_writes_junk_eq_canon]
  exact View.canon_cons_unit_lit' _ _ _ (by decide)

/-- The block at an index. -/
theorem out_at (r : Fin 2048) (o : Fin 100) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 (ix3 0 r o)
    = Spec.lin (fun o k => x12 (ix2 o k)) (fun o => x13 (ix2 0 o))
        ((wts x1 x2 x3 x4 x5 x6 x7 x8 x9 x10 x11 1).layerK ((wts x1 x2 x3 x4 x5 x6 x7 x8 x9 x10 x11 0).layerK fun t j => x0 (ix3 0 t j)) r) o := by
  rw [out_eq]
  have h : ∀ (z : V S2048x100) (w : V S1x100), k0_pay1 (F := Ideal) z w (ix3 0 r o) = z (ix2 r o) + w (ix2 0 o) := fun z w => by
    pointwise [k0_pay1]
  have hb : View.ld (Val := Elt Ideal) (e' := .f32) x13 (Rect.unit (s := S1x100) ![0, 0] S1x100.size inb_S1x100_S1x100_0_0) (ix2 0 o)
      = x13 (ix2 0 o) := by
    pointwise []
    blk_ext []
  rw [h, word_all_at, word_r_88, hb]
  rfl

end Cert.KernStages

end
-- ==== Proof.Result.lean ====
module

public import proofs.«01_k».proof.Proof.Block

@[expose] public section

set_option maxRecDepth 16384

noncomputable section

/-! The result array after the run, from the blocks the run leaves. -/

namespace Cert.KernelIdeal.Result

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Every window's block index: the batch for the rows and the result, zero elsewhere. -/
theorem idx : ∀ t : Fin cfg0.N, win0_0.index t = ![t.val, 0, 0]
    ∧ win0_1.index t = ![0, 0]
    ∧ win0_2.index t = ![0, 0]
    ∧ win0_3.index t = ![0, 0, 0]
    ∧ win0_4.index t = ![0, 0]
    ∧ win0_5.index t = ![0, 0, 0]
    ∧ win0_6.index t = ![0, 0]
    ∧ win0_7.index t = ![0, 0]
    ∧ win0_8.index t = ![0, 0]
    ∧ win0_9.index t = ![0, 0, 0]
    ∧ win0_10.index t = ![0, 0, 0, 0]
    ∧ win0_11.index t = ![0, 0, 0, 0]
    ∧ win0_12.index t = ![0, 0]
    ∧ win0_13.index t = ![0, 0]
    ∧ win0_14.index t = ![t.val, 0, 0] ∧ t.val < 4 :=
  (by decide +kernel : ∀ t : Fin grid0.N, _)

/-- The batch of a point. -/
abbrev batch (t : Fin cfg0.N) : Fin 4 := ⟨t.val, by have := idx t; omega⟩

/-- The rows of a point are its batch's. -/
theorem block0 (c : Dev nD) (t : Fin cfg0.N) (r : Fin 2048) (k : Fin 64) :
    iblk m c 0 t (ix3 0 r k) = m ((c : Thread nD τ).loc main_arg0) (ix3 (batch t) r k) := by
  blk_ext [iblk, V, idx t]

/-- Argument 1 comes whole. -/
theorem block1 (c : Dev nD) (t : Fin cfg0.N) : iblk m c 1 t = m ((c : Thread nD τ).loc main_arg1) := by
  blk_ext! [iblk, V, idx t]

/-- Argument 2 comes whole. -/
theorem block2 (c : Dev nD) (t : Fin cfg0.N) : iblk m c 2 t = m ((c : Thread nD τ).loc main_arg2) := by
  blk_ext! [iblk, V, idx t]

/-- Argument 3 comes whole. -/
theorem block3 (c : Dev nD) (t : Fin cfg0.N) : iblk m c 3 t = m ((c : Thread nD τ).loc main_arg3) := by
  blk_ext! [iblk, V, idx t]

/-- Argument 4 comes whole. -/
theorem block4 (c : Dev nD) (t : Fin cfg0.N) : iblk m c 4 t = m ((c : Thread nD τ).loc main_arg4) := by
  blk_ext! [iblk, V, idx t]

/-- Argument 5 comes whole. -/
theorem block5 (c : Dev nD) (t : Fin cfg0.N) : iblk m c 5 t = m ((c : Thread nD τ).loc main_arg5) := by
  blk_ext! [iblk, V, idx t]

/-- Argument 6 comes whole. -/
theorem block6 (c : Dev nD) (t : Fin cfg0.N) : iblk m c 6 t = m ((c : Thread nD τ).loc main_arg6) := by
  blk_ext! [iblk, V, idx t]

/-- Argument 7 comes whole. -/
theorem block7 (c : Dev nD) (t : Fin cfg0.N) : iblk m c 7 t = m ((c : Thread nD τ).loc main_arg7) := by
  blk_ext! [iblk, V, idx t]

/-- Argument 8 comes whole. -/
theorem block8 (c : Dev nD) (t : Fin cfg0.N) : iblk m c 8 t = m ((c : Thread nD τ).loc main_arg8) := by
  blk_ext! [iblk, V, idx t]

/-- Argument 9 comes whole. -/
theorem block9 (c : Dev nD) (t : Fin cfg0.N) : iblk m c 9 t = m ((c : Thread nD τ).loc main_arg9) := by
  blk_ext! [iblk, V, idx t]

/-- Argument 10 comes whole. -/
theorem block10 (c : Dev nD) (t : Fin cfg0.N) : iblk m c 10 t = m ((c : Thread nD τ).loc main_arg10) := by
  blk_ext! [iblk, V, idx t]

/-- Argument 11 comes whole. -/
theorem block11 (c : Dev nD) (t : Fin cfg0.N) : iblk m c 11 t = m ((c : Thread nD τ).loc main_arg11) := by
  blk_ext! [iblk, V, idx t]

/-- Argument 12 comes whole. -/
theorem block12 (c : Dev nD) (t : Fin cfg0.N) : iblk m c 12 t = m ((c : Thread nD τ).loc main_arg12) := by
  blk_ext! [iblk, V, idx t]

/-- The last bias comes as one row. -/
theorem block13 (c : Dev nD) (t : Fin cfg0.N) (o : Fin 100) :
    iblk m c 13 t (ix2 0 o) = m ((c : Thread nD τ).loc main_arg13) (ix1 o) := by
  blk_simp [iblk, idx t]
  entry_read
  pointwise []
  blk_ext [idx t]

/-- The reference's result over this run's arguments. -/
abbrev RES (c : Dev nD) : FVec Ideal S4x2048x100 .f32 :=
  Cert.ReferenceIdeal.Read.val_main_v352 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- A block of the result at an index. -/
theorem point (c : Dev nD) (h : ∀ l, (Cert.RefStages.argWeights (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) l).Tame) (t : Fin cfg0.N) (r : Fin 2048) (o : Fin 100) :
    outsAt0 m c t (ix3 0 r o) = RES m c (ix3 (batch t) r o) := by
  rw [outsAt0, Cert.KernStages.out_at, RES, Cert.RefStages.result_at, ← Spec.layer_eq (h 0), ← Spec.layer_eq (h 1),
    block1, block2, block3, block4, block5, block6, block7, block8, block9, block10, block11, block12]
  simp only [block0, block13]

/-- The result array after the run is the reference's. -/
theorem final (c : Dev nD) (h : ∀ l, (Cert.RefStages.argWeights (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) l).Tame) :
    (dats m 0 c).arrAt 14 (cfgs 0).N = RES m c := by
  refine (dats m 0 c).arrAt_eq_of_covers 14 _ (by decide +kernel) fun t _ y => ?_
  blk_simp
  rw [after0_14]
  have hy : y = ix3 (0 : Fin 1) (y 1 : Fin 2048) (y 2 : Fin 100) := by blk_ext []
  have he : ((cfg0.win 14).blk t).view.emb y = ix3 (batch t) (y 1 : Fin 2048) (y 2 : Fin 100) := by blk_ext [idx t]
  rw [he]
  exact (congrArg (outsAt0 m c t) hy).trans (point m c h t _ _)

end Cert.KernelIdeal.Result

end
-- ==== Proof.Tame.lean ====
module

public import proofs.«01_k».proof.Proof.RefLayer
public import proofs.«01_k».proof.Proof.Frames

@[expose] public section

set_option maxRecDepth 16384

noncomputable section

/-! The precondition makes the weights the scores read real numbers. -/

namespace Cert.Proof

open Idealize.ShloMosaic Idealize.ShloMosaic.TcCoe Idealize.SL.Sem
open Cert.Pre_scores_finite

/-- An extended real whose absolute value is below infinity is a real number. -/
theorem real_of_lt (x : EReal)
    (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  have hb : max x (-x) < ⊤ := by
    by_contra hn
    simp [Ideal.cmp, hn] at h
  refine Spec.isReal_of_ne (fun hx => ?_) (fun hx => ?_)
  · rw [hx] at hb; simp at hb
  · rw [hx] at hb; simp at hb

variable (x0 : FVec Ideal S4x2048x64 .f32) (x1 x2 : FVec Ideal S2x64 .f32) (x3 : FVec Ideal S2x192x64 .f32)
  (x4 : FVec Ideal S2x192 .f32) (x5 : FVec Ideal S2x64x64 .f32) (x6 x7 x8 : FVec Ideal S2x64 .f32)
  (x9 : FVec Ideal S2x4x64 .f32) (x10 : FVec Ideal S2x4x256x64 .f32) (x11 : FVec Ideal S2x4x64x128 .f32)
  (x12 : FVec Ideal S100x64 .f32) (x13 : FVec Ideal S100 .f32)

/-- Each layer's weights are tame under the precondition. -/
theorem tame_of_pre
    (h : (@fn preFacts Ideal _ x0 x1 x2 x3 x4 x5 x6 x7 x8 x9 x10 x11 x12 x13).1 = (fun _ => 1#1)
      ∧ (@fn preFacts Ideal _ x0 x1 x2 x3 x4 x5 x6 x7 x8 x9 x10 x11 x12 x13).2.1 = (fun _ => 1#1)
      ∧ (@fn preFacts Ideal _ x0 x1 x2 x3 x4 x5 x6 x7 x8 x9 x10 x11 x12 x13).2.2.1 = (fun _ => 1#1)
      ∧ (@fn preFacts Ideal _ x0 x1 x2 x3 x4 x5 x6 x7 x8 x9 x10 x11 x12 x13).2.2.2 = (fun _ => 1#1)) (l : Fin 2) :
    (Cert.RefStages.argWeights x1 x2 x3 x4 x5 x6 x7 x8 x9 x10 x11 l).Tame where
  g1 j := real_of_lt _ (congrFun h.1 (ix2 l j))
  b1 j := real_of_lt _ (congrFun h.2.1 (ix2 l j))
  qk o ho k := by
    have e := congrFun h.2.2.1 (ix3 l (⟨o.val, ho⟩ : Fin 128) k)
    have ex : extractStridedSlice S2x128x64 ![0, 0, 0] x3 preFacts.slices_S2x192x64_S2x128x64_0_0_0 (ix3 l (⟨o.val, ho⟩ : Fin 128) k)
        = x3 (ix3 l o k) := by
      pointwise []
    exact (real_of_lt _ e).imp fun r hr => ex.symm.trans hr
  bqk o ho := by
    have e := congrFun h.2.2.2 (ix2 l (⟨o.val, ho⟩ : Fin 128))
    have ex : extractStridedSlice S2x128 ![0, 0] x4 preFacts.slices_S2x192_S2x128_0_0 (ix2 l (⟨o.val, ho⟩ : Fin 128))
        = x4 (ix2 l o) := by
      pointwise []
    exact (real_of_lt _ e).imp fun r hr => ex.symm.trans hr

end Cert.Proof

end
-- ==== Proof.Algebraic.lean ====
module

public import proofs.«01_k».proof.Proof.Result
public import proofs.«01_k».proof.Proof.Tame

@[expose] public section

noncomputable section

namespace Cert.Proof

open Idealize.ShloMosaic Idealize.ShloMosaic.TcCoe Idealize.SL.Sem

set_option maxHeartbeats 1000000 in
/-- Over the extended reals the kernel's result is the reference's, when the attention scores are finite. -/
theorem algebraic : Cert.algebraic_KernelIdeal_ReferenceIdeal_pre_scores_finite
    (hKernelIdeal := Cert.KernelIdeal.Gen.facts) (hReferenceIdeal := Cert.ReferenceIdeal.Gen.facts)
    (hPre_scores_finite := preFacts) := by
  intro m g m' g' hpre hag
  have hl := fun c l => tame_of_pre _ _ _ _ _ _ _ _ _ _ _ _ _ _ (hpre c) l
  refine ⟨fun c => Cert.KernelIdeal.Result.RES m c,
    (θ_run _ _ _).mono (fun r h c => ⟨(h c).1.trans (Cert.KernelIdeal.Result.final m c (hl c)), (h c).2⟩)
      (Cert.KernelIdeal.Value.run_blocks m g),
    (θ_run _ _ _).mono (fun r h c => ⟨(h c).1.trans ?_, (h c).2⟩) (Cert.ReferenceIdeal.Value.run m' g')⟩
  refine (Cert.ReferenceIdeal.Read.val_main_v352_eq (StableHlo.launchContents m' c)).trans ?_
  obtain ⟨h0, h1, h2, h3, h4, h5, h6, h7, h8, h9, h10, h11, h12, h13⟩ := hag c
  dsimp only [Cert.KernelIdeal.Result.RES]
  rw [← h0, ← h1, ← h2, ← h3, ← h4, ← h5, ← h6, ← h7, ← h8, ← h9, ← h10, ← h11, ← h12, ← h13]

end Cert.Proof

end
-- ==== Proof.lean ====
module

public import proofs.«01_k».proof.Proof.Frames
public import proofs.«01_k».proof.Proof.Gen.KernelIdeal.Value
public import proofs.«01_k».proof.Proof.Gen.ReferenceIdeal.Read
public import proofs.«01_k».proof.Proof.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts, preFacts,
    frameKernel, frameKernelIdeal, frameKernelIdealPre, frameReferenceIdeal, frameReferenceIdealPre, trivial, algebraic⟩

end Cert.Proof

end
